-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![1024]⟩ ⟨1, ![2048]⟩ (Layout.meshBlock [2, 4, 4] ![[0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 1024, 2048]⟩ ⟨3, ![4, 1024, 2048]⟩ (Layout.meshBlock [2, 4, 4] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 2048, 1024]⟩ ⟨3, ![4, 2048, 1024]⟩ (Layout.meshBlock [2, 4, 4] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = Layout.blockN ⟨2, ![1024, 1024]⟩ ⟨2, ![2048, 1024]⟩ (Layout.meshBlock [2, 4, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S1024x1024 : Shape := ⟨2, ![1024, 1024]⟩
abbrev S1024 : Shape := ⟨1, ![1024]⟩
abbrev S2x1024x2048 : Shape := ⟨3, ![2, 1024, 2048]⟩
abbrev S2x2048x1024 : Shape := ⟨3, ![2, 2048, 1024]⟩
abbrev S_ : Shape := ⟨0, ![]⟩

class Facts : Prop where
  bcast_S_S1024 : S_.BroadcastsInDim S1024 (![] : Fin 0 → Fin S1024.rank)
  natLt_1_32 : 1 < 32
  reducesTo_S1024_S_d0 : S1024.ReducesTo [0] S_
  h_S_ : 0 < S_.numel

variable [Facts]

def fn_part1 {F : FTy → Type} [FloatOps F] (main_arg1 : IVec S1024 32) (main_v11 : IVec S_ 1) (main_v14 : IVec S1024 32) (main_c_7 : IVec S_ 32) : IVec S_ 1 :=
  let main_v15 : IVec S_ 32 := (fun x v => Host.reduce IntOp.addi x v reducesTo_S1024_S_d0 h_S_) main_v14 main_c_7
  let main_c_8 : IVec S_ 32 := constantI S_ 32 320#32
  let main_v16 : IVec S_ 1 := cmpi .sle main_v15 main_c_8
  let main_v17 : IVec S_ 1 := andi main_v11 main_v16
  let main_c_9 : IVec S_ 32 := constantI S_ 32 3#32
  let main_v18 : IVec S1024 32 := broadcastInDim S1024 ![] bcast_S_S1024 main_c_9
  let main_v19 : IVec S1024 1 := cmpi .eq main_arg1 main_v18
  let main_v20 : IVec S1024 32 := (extui 32 · natLt_1_32) main_v19
  let main_c_10 : IVec S_ 32 := constantI S_ 32 0#32
  let main_v21 : IVec S_ 32 := (fun x v => Host.reduce IntOp.addi x v reducesTo_S1024_S_d0 h_S_) main_v20 main_c_10
  let main_c_11 : IVec S_ 32 := constantI S_ 32 320#32
  let main_v22 : IVec S_ 1 := cmpi .sle main_v21 main_c_11
  let main_v23 : IVec S_ 1 := andi main_v17 main_v22
  main_v23

def fn {F : FTy → Type} [FloatOps F] (main_arg0 : FVec F S1024x1024 .f32) (main_arg1 : IVec S1024 32) (main_arg2 : FVec F S2x1024x2048 .f32) (main_arg3 : FVec F S2x2048x1024 .f32) : IVec S_ 1 :=
  let main_c : IVec S_ 32 := constantI S_ 32 0#32
  let main_v0 : IVec S1024 32 := broadcastInDim S1024 ![] bcast_S_S1024 main_c
  let main_v1 : IVec S1024 1 := cmpi .eq main_arg1 main_v0
  let main_v2 : IVec S1024 32 := (extui 32 · natLt_1_32) main_v1
  let main_c_0 : IVec S_ 32 := constantI S_ 32 0#32
  let main_v3 : IVec S_ 32 := (fun x v => Host.reduce IntOp.addi x v reducesTo_S1024_S_d0 h_S_) main_v2 main_c_0
  let main_c_1 : IVec S_ 32 := constantI S_ 32 320#32
  let main_v4 : IVec S_ 1 := cmpi .sle main_v3 main_c_1
  let main_c_2 : IVec S_ 1 := constantI S_ 1 1#1
  let main_v5 : IVec S_ 1 := andi main_c_2 main_v4
  let main_c_3 : IVec S_ 32 := constantI S_ 32 1#32
  let main_v6 : IVec S1024 32 := broadcastInDim S1024 ![] bcast_S_S1024 main_c_3
  let main_v7 : IVec S1024 1 := cmpi .eq main_arg1 main_v6
  let main_v8 : IVec S1024 32 := (extui 32 · natLt_1_32) main_v7
  let main_c_4 : IVec S_ 32 := constantI S_ 32 0#32
  let main_v9 : IVec S_ 32 := (fun x v => Host.reduce IntOp.addi x v reducesTo_S1024_S_d0 h_S_) main_v8 main_c_4
  let main_c_5 : IVec S_ 32 := constantI S_ 32 320#32
  let main_v10 : IVec S_ 1 := cmpi .sle main_v9 main_c_5
  let main_v11 : IVec S_ 1 := andi main_v5 main_v10
  let main_c_6 : IVec S_ 32 := constantI S_ 32 2#32
  let main_v12 : IVec S1024 32 := broadcastInDim S1024 ![] bcast_S_S1024 main_c_6
  let main_v13 : IVec S1024 1 := cmpi .eq main_arg1 main_v12
  let main_v14 : IVec S1024 32 := (extui 32 · natLt_1_32) main_v13
  let main_c_7 : IVec S_ 32 := constantI S_ 32 0#32
  fn_part1 (F := F) main_arg1 main_v11 main_v14 main_c_7
-- ==== Pre_fits_ReferenceIdeal.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S_ : Shape := ⟨0, ![]⟩

class Facts : Prop where
  bcast_S_S2048 : S_.BroadcastsInDim S2048 (![] : Fin 0 → Fin S2048.rank)
  natLt_1_32 : 1 < 32
  reducesTo_S2048_S_d0 : S2048.ReducesTo [0] S_
  h_S_ : 0 < S_.numel

variable [Facts]

def fn_part1 {F : FTy → Type} [FloatOps F] (main_arg1 : IVec S2048 32) (main_v11 : IVec S_ 1) (main_v14 : IVec S2048 32) (main_c_7 : IVec S_ 32) : IVec S_ 1 :=
  let main_v15 : IVec S_ 32 := (fun x v => Host.reduce IntOp.addi x v reducesTo_S2048_S_d0 h_S_) main_v14 main_c_7
  let main_c_8 : IVec S_ 32 := constantI S_ 32 320#32
  let main_v16 : IVec S_ 1 := cmpi .sle main_v15 main_c_8
  let main_v17 : IVec S_ 1 := andi main_v11 main_v16
  let main_c_9 : IVec S_ 32 := constantI S_ 32 3#32
  let main_v18 : IVec S2048 32 := broadcastInDim S2048 ![] bcast_S_S2048 main_c_9
  let main_v19 : IVec S2048 1 := cmpi .eq main_arg1 main_v18
  let main_v20 : IVec S2048 32 := (extui 32 · natLt_1_32) main_v19
  let main_c_10 : IVec S_ 32 := constantI S_ 32 0#32
  let main_v21 : IVec S_ 32 := (fun x v => Host.reduce IntOp.addi x v reducesTo_S2048_S_d0 h_S_) main_v20 main_c_10
  let main_c_11 : IVec S_ 32 := constantI S_ 32 320#32
  let main_v22 : IVec S_ 1 := cmpi .sle main_v21 main_c_11
  let main_v23 : IVec S_ 1 := andi main_v17 main_v22
  main_v23

def fn {F : FTy → Type} [FloatOps F] (main_arg0 : FVec F S2048x1024 .f32) (main_arg1 : IVec S2048 32) (main_arg2 : FVec F S4x1024x2048 .f32) (main_arg3 : FVec F S4x2048x1024 .f32) : IVec S_ 1 :=
  let main_c : IVec S_ 32 := constantI S_ 32 0#32
  let main_v0 : IVec S2048 32 := broadcastInDim S2048 ![] bcast_S_S2048 main_c
  let main_v1 : IVec S2048 1 := cmpi .eq main_arg1 main_v0
  let main_v2 : IVec S2048 32 := (extui 32 · natLt_1_32) main_v1
  let main_c_0 : IVec S_ 32 := constantI S_ 32 0#32
  let main_v3 : IVec S_ 32 := (fun x v => Host.reduce IntOp.addi x v reducesTo_S2048_S_d0 h_S_) main_v2 main_c_0
  let main_c_1 : IVec S_ 32 := constantI S_ 32 320#32
  let main_v4 : IVec S_ 1 := cmpi .sle main_v3 main_c_1
  let main_c_2 : IVec S_ 1 := constantI S_ 1 1#1
  let main_v5 : IVec S_ 1 := andi main_c_2 main_v4
  let main_c_3 : IVec S_ 32 := constantI S_ 32 1#32
  let main_v6 : IVec S2048 32 := broadcastInDim S2048 ![] bcast_S_S2048 main_c_3
  let main_v7 : IVec S2048 1 := cmpi .eq main_arg1 main_v6
  let main_v8 : IVec S2048 32 := (extui 32 · natLt_1_32) main_v7
  let main_c_4 : IVec S_ 32 := constantI S_ 32 0#32
  let main_v9 : IVec S_ 32 := (fun x v => Host.reduce IntOp.addi x v reducesTo_S2048_S_d0 h_S_) main_v8 main_c_4
  let main_c_5 : IVec S_ 32 := constantI S_ 32 320#32
  let main_v10 : IVec S_ 1 := cmpi .sle main_v9 main_c_5
  let main_v11 : IVec S_ 1 := andi main_v5 main_v10
  let main_c_6 : IVec S_ 32 := constantI S_ 32 2#32
  let main_v12 : IVec S2048 32 := broadcastInDim S2048 ![] bcast_S_S2048 main_c_6
  let main_v13 : IVec S2048 1 := cmpi .eq main_arg1 main_v12
  let main_v14 : IVec S2048 32 := (extui 32 · natLt_1_32) main_v13
  let main_c_7 : IVec S_ 32 := constantI S_ 32 0#32
  fn_part1 (F := F) main_arg1 main_v11 main_v14 main_c_7
-- ==== Kernel.lean ====
abbrev S1024x1024 : Shape := ⟨2, ![1024, 1024]⟩
abbrev S1024 : Shape := ⟨1, ![1024]⟩
abbrev S2x1024x2048 : Shape := ⟨3, ![2, 1024, 2048]⟩
abbrev S2x2048x1024 : Shape := ⟨3, ![2, 2048, 1024]⟩
abbrev S_ : Shape := ⟨0, ![]⟩
abbrev S1 : Shape := ⟨1, ![1]⟩
abbrev S4 : Shape := ⟨1, ![4]⟩
abbrev S1x1024 : Shape := ⟨2, ![1, 1024]⟩
abbrev S4x1 : Shape := ⟨2, ![4, 1]⟩
abbrev S4x1024 : Shape := ⟨2, ![4, 1024]⟩
abbrev S4x1024x1 : Shape := ⟨3, ![4, 1024, 1]⟩
abbrev S4x1x1024 : Shape := ⟨3, ![4, 1, 1024]⟩
abbrev S2x320x1024 : Shape := ⟨3, ![2, 320, 1024]⟩
abbrev S1x1024x2048 : Shape := ⟨3, ![1, 1024, 2048]⟩
abbrev S1024x2048 : Shape := ⟨2, ![1024, 2048]⟩
abbrev S1x2048x1024 : Shape := ⟨3, ![1, 2048, 1024]⟩
abbrev S2048x1024 : Shape := ⟨2, ![2048, 1024]⟩
abbrev S320x1024 : Shape := ⟨2, ![320, 1024]⟩
abbrev S1x1x1024 : Shape := ⟨3, ![1, 1, 1024]⟩
abbrev S1x320x1024 : Shape := ⟨3, ![1, 320, 1024]⟩
abbrev S320x2048 : Shape := ⟨2, ![320, 2048]⟩
abbrev S1x160x1024 : Shape := ⟨3, ![1, 160, 1024]⟩
abbrev S160x1024 : Shape := ⟨2, ![160, 1024]⟩
abbrev S160x2048 : Shape := ⟨2, ![160, 2048]⟩
abbrev S1x1024x1 : Shape := ⟨3, ![1, 1024, 1]⟩
abbrev S1024x1 : Shape := ⟨2, ![1024, 1]⟩
abbrev S1024x320 : Shape := ⟨2, ![1024, 320]⟩
abbrev S1024x160 : Shape := ⟨2, ![1024, 160]⟩

abbrev nBuf : Space → Nat
  | .hbm => 45
  | .vmem => 10
  | .smem => 0
  | _ => 0

abbrev bufTy : (tb : Table) → Fin (tcTables nBuf tb) → BufTy
  | .hbm, ⟨0, _⟩ => ⟨S1024x1024, .f32⟩
  | .hbm, ⟨1, _⟩ => ⟨S1024, .i32⟩
  | .hbm, ⟨2, _⟩ => ⟨S2x1024x2048, .f32⟩
  | .hbm, ⟨3, _⟩ => ⟨S2x2048x1024, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1024x1024, .bf16⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1, .i32⟩
  | .hbm, ⟨22, _⟩ => ⟨S1, .i32⟩
  | .hbm, ⟨23, _⟩ => ⟨S1, .i32⟩
  | .hbm, ⟨24, _⟩ => ⟨S1, .i32⟩
  | .hbm, ⟨25, _⟩ => ⟨S4, .i32⟩
  | .hbm, ⟨26, _⟩ => ⟨S1x1024, .i32⟩
  | .hbm, ⟨27, _⟩ => ⟨S4x1, .i32⟩
  | .hbm, ⟨28, _⟩ => ⟨S4x1024, .i32⟩
  | .hbm, ⟨29, _⟩ => ⟨S4x1024, .i32⟩
  | .hbm, ⟨30, _⟩ => ⟨S4x1024, .i1⟩
  | .hbm, ⟨31, _⟩ => ⟨S4x1024, .i32⟩
  | .hbm, ⟨32, _⟩ => ⟨S_, .i32⟩
  | .hbm, ⟨33, _⟩ => ⟨S_, .i32⟩
  | .hbm, ⟨34, _⟩ => ⟨S4x1024, .i32⟩
  | .hbm, ⟨35, _⟩ => ⟨S_, .i32⟩
  | .hbm, ⟨36, _⟩ => ⟨S4x1024, .i32⟩
  | .hbm, ⟨37, _⟩ => ⟨S4x1024, .i32⟩
  | .hbm, ⟨38, _⟩ => ⟨S_, .i32⟩
  | .hbm, ⟨39, _⟩ => ⟨S_, .i32⟩
  | .hbm, ⟨40, _⟩ => ⟨S4x1024, .i32⟩
  | .hbm, ⟨41, _⟩ => ⟨S4x1024, .i32⟩
  | .hbm, ⟨42, _⟩ => ⟨S4x1024x1, .i32⟩
  | .hbm, ⟨43, _⟩ => ⟨S4x1x1024, .i32⟩
  | .hbm, ⟨44, _⟩ => ⟨S1024x1024, .f32⟩
  | .local _ .vmem, ⟨0, _⟩ => ⟨S1024x1024, .bf16⟩
  | .local _ .vmem, ⟨1, _⟩ => ⟨S4x1024x1, .i32⟩
  | .local _ .vmem, ⟨2, _⟩ => ⟨S4x1x1024, .i32⟩
  | .local _ .vmem, ⟨3, _⟩ => ⟨S1024x1024, .f32⟩
  | .local _ .vmem, ⟨4, _⟩ => ⟨S2x320x1024, .bf16⟩
  | .local _ .vmem, ⟨5, _⟩ => ⟨S2x320x1024, .bf16⟩
  | .local _ .vmem, ⟨6, _⟩ => ⟨S2x320x1024, .bf16⟩
  | .local _ .vmem, ⟨7, _⟩ => ⟨S2x320x1024, .bf16⟩
  | .local _ .vmem, ⟨8, _⟩ => ⟨S2x1024x2048, .f32⟩
  | .local _ .vmem, ⟨9, _⟩ => ⟨S2x2048x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_c_3 : Ref sig .tc := ⟨.hbm, 15, rfl⟩
abbrev main_v8 : Ref sig .tc := ⟨.hbm, 16, rfl⟩
abbrev main_c_4 : Ref sig .tc := ⟨.hbm, 17, rfl⟩
abbrev main_v9 : Ref sig .tc := ⟨.hbm, 18, rfl⟩
abbrev main_c_5 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_call0_c : Ref sig .tc := ⟨.hbm, 32, rfl⟩
abbrev main_call0_call0_v0 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_c_7 : Ref sig .tc := ⟨.hbm, 38, rfl⟩
abbrev main_call1_v0 : Ref sig .tc := ⟨.hbm, 39, rfl⟩
abbrev main_call1_v1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_44 : BitVec 32 := 0#32
  let c1_i32 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Scalar.subi c1_i32 v2
  let c16_i32_43 : BitVec 32 := 16#32
  let v65 : BitVec 32 := Scalar.muli v3 c16_i32_43
  let v66 : BitVec 32 := Scalar.addi c0_i32_44 v65
  let v4 : BitVec 32 := Dev.word d0
  let c4_i32_0 : BitVec 32 := 4#32
  let v5 : BitVec 32 := Scalar.divsi v4 c4_i32_0
  let c4_i32 : BitVec 32 := 4#32
  let v6 : BitVec 32 := Scalar.remsi v5 c4_i32
  let c4_i32_45 : BitVec 32 := 4#32
  let v67 : BitVec 32 := Scalar.muli v6 c4_i32_45
  let v68 : BitVec 32 := Scalar.addi v66 v67
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_46 : BitVec 32 := 1#32
  let v69 : BitVec 32 := Scalar.muli v9 c1_i32_46
  let v70 : BitVec 32 := Scalar.addi v68 v69
  v70.toNat
def k0_dev2 (d0 : Dev nD) : Nat :=
  let c0_i32_51 : BitVec 32 := 0#32
  let c1_i32 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Scalar.subi c1_i32 v2
  let c16_i32_50 : BitVec 32 := 16#32
  let v71 : BitVec 32 := Scalar.muli v3 c16_i32_50
  let v72 : BitVec 32 := Scalar.addi c0_i32_51 v71
  let v4 : BitVec 32 := Dev.word d0
  let c4_i32_0 : BitVec 32 := 4#32
  let v5 : BitVec 32 := Scalar.divsi v4 c4_i32_0
  let c4_i32 : BitVec 32 := 4#32
  let v6 : BitVec 32 := Scalar.remsi v5 c4_i32
  let c4_i32_52 : BitVec 32 := 4#32
  let v73 : BitVec 32 := Scalar.muli v6 c4_i32_52
  let v74 : BitVec 32 := Scalar.addi v72 v73
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_53 : BitVec 32 := 1#32
  let v75 : BitVec 32 := Scalar.muli v9 c1_i32_53
  let v76 : BitVec 32 := Scalar.addi v74 v75
  v76.toNat
def k0_dev3 (d0 : Dev nD) : Nat :=
  let c0_i32_141 : BitVec 32 := 0#32
  let c1_i32 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Scalar.subi c1_i32 v2
  let c16_i32_140 : BitVec 32 := 16#32
  let v170 : BitVec 32 := Scalar.muli v3 c16_i32_140
  let v171 : BitVec 32 := Scalar.addi c0_i32_141 v170
  let v4 : BitVec 32 := Dev.word d0
  let c4_i32_0 : BitVec 32 := 4#32
  let v5 : BitVec 32 := Scalar.divsi v4 c4_i32_0
  let c4_i32 : BitVec 32 := 4#32
  let v6 : BitVec 32 := Scalar.remsi v5 c4_i32
  let c4_i32_142 : BitVec 32 := 4#32
  let v172 : BitVec 32 := Scalar.muli v6 c4_i32_142
  let v173 : BitVec 32 := Scalar.addi v171 v172
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_143 : BitVec 32 := 1#32
  let v174 : BitVec 32 := Scalar.muli v9 c1_i32_143
  let v175 : BitVec 32 := Scalar.addi v173 v174
  v175.toNat
def k0_dev4 (d0 : Dev nD) : Nat :=
  let c0_i32_168 : BitVec 32 := 0#32
  let c1_i32 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Scalar.subi c1_i32 v2
  let c16_i32_167 : BitVec 32 := 16#32
  let v199 : BitVec 32 := Scalar.muli v3 c16_i32_167
  let v200 : BitVec 32 := Scalar.addi c0_i32_168 v199
  let v4 : BitVec 32 := Dev.word d0
  let c4_i32_0 : BitVec 32 := 4#32
  let v5 : BitVec 32 := Scalar.divsi v4 c4_i32_0
  let c4_i32 : BitVec 32 := 4#32
  let v6 : BitVec 32 := Scalar.remsi v5 c4_i32
  let c4_i32_169 : BitVec 32 := 4#32
  let v201 : BitVec 32 := Scalar.muli v6 c4_i32_169
  let v202 : BitVec 32 := Scalar.addi v200 v201
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_170 : BitVec 32 := 1#32
  let v203 : BitVec 32 := Scalar.muli v9 c1_i32_170
  let v204 : BitVec 32 := Scalar.addi v202 v203
  v204.toNat
def k0_dev5 (d0 : Dev nD) : Nat :=
  let c0_i32_194 : BitVec 32 := 0#32
  let c1_i32 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Scalar.subi c1_i32 v2
  let c16_i32_193 : BitVec 32 := 16#32
  let v228 : BitVec 32 := Scalar.muli v3 c16_i32_193
  let v229 : BitVec 32 := Scalar.addi c0_i32_194 v228
  let v4 : BitVec 32 := Dev.word d0
  let c4_i32_0 : BitVec 32 := 4#32
  let v5 : BitVec 32 := Scalar.divsi v4 c4_i32_0
  let c4_i32 : BitVec 32 := 4#32
  let v6 : BitVec 32 := Scalar.remsi v5 c4_i32
  let c4_i32_195 : BitVec 32 := 4#32
  let v230 : BitVec 32 := Scalar.muli v6 c4_i32_195
  let v231 : BitVec 32 := Scalar.addi v229 v230
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_196 : BitVec 32 := 1#32
  let v232 : BitVec 32 := Scalar.muli v9 c1_i32_196
  let v233 : BitVec 32 := Scalar.addi v231 v232
  v233.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S_ : Shape := ⟨0, ![]⟩
abbrev S1x1024x2048 : Shape := ⟨3, ![1, 1024, 2048]⟩
abbrev S1024x2048 : Shape := ⟨2, ![1024, 2048]⟩
abbrev S2048x2048 : Shape := ⟨2, ![2048, 2048]⟩
abbrev S1x2048x1024 : Shape := ⟨3, ![1, 2048, 1024]⟩
abbrev S2048x1 : Shape := ⟨2, ![2048, 1]⟩

abbrev nBuf : Space → Nat
  | .hbm => 66
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S4x1024x2048, .f32⟩
  | .hbm, ⟨3, _⟩ => ⟨S4x2048x1024, .f32⟩
  | .hbm, ⟨4, _⟩ => ⟨S_, .f32⟩
  | .hbm, ⟨5, _⟩ => ⟨S2048x1024, .f32⟩
  | .hbm, ⟨6, _⟩ => ⟨S_, .i32⟩
  | .hbm, ⟨7, _⟩ => ⟨S2048, .i32⟩
  | .hbm, ⟨8, _⟩ => ⟨S2048, .i1⟩
  | .hbm, ⟨9, _⟩ => ⟨S1x1024x2048, .f32⟩
  | .hbm, ⟨10, _⟩ => ⟨S1024x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S1x2048x1024, .f32⟩
  | .hbm, ⟨16, _⟩ => ⟨S2048x1024, .f32⟩
  | .hbm, ⟨17, _⟩ => ⟨S2048x1024, .f32⟩
  | .hbm, ⟨18, _⟩ => ⟨S2048x1, .i1⟩
  | .hbm, ⟨19, _⟩ => ⟨S2048x1024, .i1⟩
  | .hbm, ⟨20, _⟩ => ⟨S2048x1024, .f32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S1x1024x2048, .f32⟩
  | .hbm, ⟨25, _⟩ => ⟨S1024x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S1x2048x1024, .f32⟩
  | .hbm, ⟨31, _⟩ => ⟨S2048x1024, .f32⟩
  | .hbm, ⟨32, _⟩ => ⟨S2048x1024, .f32⟩
  | .hbm, ⟨33, _⟩ => ⟨S2048x1, .i1⟩
  | .hbm, ⟨34, _⟩ => ⟨S2048x1024, .i1⟩
  | .hbm, ⟨35, _⟩ => ⟨S2048x1024, .f32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S1x1024x2048, .f32⟩
  | .hbm, ⟨40, _⟩ => ⟨S1024x2048, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S1x2048x1024, .f32⟩
  | .hbm, ⟨46, _⟩ => ⟨S2048x1024, .f32⟩
  | .hbm, ⟨47, _⟩ => ⟨S2048x1024, .f32⟩
  | .hbm, ⟨48, _⟩ => ⟨S2048x1, .i1⟩
  | .hbm, ⟨49, _⟩ => ⟨S2048x1024, .i1⟩
  | .hbm, ⟨50, _⟩ => ⟨S2048x1024, .f32⟩
  | .hbm, ⟨51, _⟩ => ⟨S_, .i32⟩
  | .hbm, ⟨52, _⟩ => ⟨S2048, .i32⟩
  | .hbm, ⟨53, _⟩ => ⟨S2048, .i1⟩
  | .hbm, ⟨54, _⟩ => ⟨S1x1024x2048, .f32⟩
  | .hbm, ⟨55, _⟩ => ⟨S1024x2048, .f32⟩
  | .hbm, ⟨56, _⟩ => ⟨S2048x2048, .f32⟩
  | .hbm, ⟨57, _⟩ => ⟨S_, .f32⟩
  | .hbm, ⟨58, _⟩ => ⟨S2048x2048, .f32⟩
  | .hbm, ⟨59, _⟩ => ⟨S2048x2048, .f32⟩
  | .hbm, ⟨60, _⟩ => ⟨S1x2048x1024, .f32⟩
  | .hbm, ⟨61, _⟩ => ⟨S2048x1024, .f32⟩
  | .hbm, ⟨62, _⟩ => ⟨S2048x1024, .f32⟩
  | .hbm, ⟨63, _⟩ => ⟨S2048x1, .i1⟩
  | .hbm, ⟨64, _⟩ => ⟨S2048x1024, .i1⟩
  | .hbm, ⟨65, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_v0 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call3_v0 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Proof.Protocol.lean ====
/-
  The protocol of the exchange, per device `c` with partner `pr c` (the device with the other x-coordinate).

    barrier      signalled once by the partner; the unit hands over the partner's two landing buffers and the fact that
                 its receive cells are open
    send 0..3    credited by the own remote copies; hand the source back
    recv 0..3    credited by the partner's remote copies; hand over the landing buffer at the partner's contents

  Copy 0 carries the tokens to be served by the partner (scratch0 -> scratch1); copies 1, 2, 3 carry the rows served for
  the partner (three windows of scratch2 -> the same windows of scratch3).
-/
module

public import proofs.«01_k».proof.Proof.Gen.KernelIdeal.Skeleton
public import proofs.«01_k».proof.Proof.Gen.KernelIdeal.Regions
public import proofs.«01_k».proof.Proof.Gen.KernelIdeal.Points
public import Idealize.ShloMosaic.Lib.Rounds
public import Idealize.ShloMosaic.Lib.Tactic
public import Idealize.ShloMosaic.Lib.Exec
public import Idealize.ShloMosaic.Lib.Pipeline.RegionTalk

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-! ## The partner -/

/-- The device with the other x-coordinate and the same y and z. -/
def pr (c : Dev nD) : Dev nD := ⟨(c.val + 16) % 32, Nat.mod_lt _ (by decide)⟩
/-- The partner's partner is the device itself. -/
theorem pr_pr (c : Dev nD) : pr (pr c) = c := by revert c; decide
/-- The partner as a permutation of the devices. -/
def swap : Dev nD ≃ Dev nD := ⟨pr, pr, pr_pr, pr_pr⟩
/-- The five peers the body computes are all the partner. -/
theorem dev1_eq (c : Dev nD) : (⟨k0_dev1 c, k0_dev1_lt c⟩ : Dev nD) = pr c := by revert c; decide +kernel
/-- This copy is addressed to the partner, too. -/
theorem dev2_eq (c : Dev nD) : (⟨k0_dev2 c, k0_dev2_lt c⟩ : Dev nD) = pr c := by revert c; decide +kernel
/-- This copy is addressed to the partner, too. -/
theorem dev3_eq (c : Dev nD) : (⟨k0_dev3 c, k0_dev3_lt c⟩ : Dev nD) = pr c := by revert c; decide +kernel
/-- This copy is addressed to the partner, too. -/
theorem dev4_eq (c : Dev nD) : (⟨k0_dev4 c, k0_dev4_lt c⟩ : Dev nD) = pr c := by revert c; decide +kernel
/-- This copy is addressed to the partner, too. -/
theorem dev5_eq (c : Dev nD) : (⟨k0_dev5 c, k0_dev5_lt c⟩ : Dev nD) = pr c := by revert c; decide +kernel

/-! ## Buffers, views and semaphores of the exchange -/

/-- The buffer of the rows sent to be served; -/
abbrev mSend0 : Memref sig .tc .vmem S2x320x1024 .bf16 := Memref.whole cc0_scratch0
/-- the buffer that the partner's land in; -/
abbrev mRecv0 : Memref sig .tc .vmem S2x320x1024 .bf16 := Memref.whole cc0_scratch1
/-- the buffer of the rows served, to be returned; -/
abbrev mSend1 : Memref sig .tc .vmem S2x320x1024 .bf16 := Memref.whole cc0_scratch2
/-- the buffer that the partner's returned rows land in. -/
abbrev mRecv1 : Memref sig .tc .vmem S2x320x1024 .bf16 := Memref.whole cc0_scratch3

/-- The three rectangles of the results' buffers: the first expert's rows, and the two halves of the second's. -/
abbrev rLo : Rect S2x320x1024 := Rect.unit (s := S2x320x1024) ![0, 0, 0] S1x320x1024.size inb_S2x320x1024_S1x320x1024_0_0_0
/-- The third quarter of a buffer: the first half of its upper half. -/
abbrev rMid : Rect S2x320x1024 := Rect.unit (s := S2x320x1024) ![1, 0, 0] S1x160x1024.size inb_S2x320x1024_S1x160x1024_1_0_0
/-- The last quarter of a buffer. -/
abbrev rHi : Rect S2x320x1024 := Rect.unit (s := S2x320x1024) ![1, 160, 0] S1x160x1024.size inb_S2x320x1024_S1x160x1024_1_160_0

/-- A buffer's lower half as a window; -/
abbrev lo (b : Memref sig .tc .vmem S2x320x1024 .bf16) : Memref sig .tc .vmem S320x1024 .bf16 :=
  (b.slice rLo (fun _ => rfl)).squeeze S320x1024 squeezes_S1x320x1024_S320x1024
/-- its third quarter; -/
abbrev mid (b : Memref sig .tc .vmem S2x320x1024 .bf16) : Memref sig .tc .vmem S160x1024 .bf16 :=
  (b.slice rMid (fun _ => rfl)).squeeze S160x1024 squeezes_S1x160x1024_S160x1024
/-- its last quarter. -/
abbrev hi (b : Memref sig .tc .vmem S2x320x1024 .bf16) : Memref sig .tc .vmem S160x1024 .bf16 :=
  (b.slice rHi (fun _ => rfl)).squeeze S160x1024 squeezes_S1x160x1024_S160x1024

/-- The barrier semaphore. -/
abbrev barS : Sem sig := (SemArray.scalar (sig.barrier 0 rfl) : Sems sig S_).sem
/-- The semaphore of copy 0 in an array of four. -/
abbrev sem0 (A : DmaSems sig S4) : DmaSem sig := ((A.slice (Rect.unit (s := S4) ![0] S1.size inb_S4_S1_0)).squeeze S_ squeezes_S1_S_).sem
/-- The semaphore of copy 1 in an array of four. -/
abbrev sem1 (A : DmaSems sig S4) : DmaSem sig := ((A.slice (Rect.unit (s := S4) ![1] S1.size inb_S4_S1_1)).squeeze S_ squeezes_S1_S_).sem
/-- The semaphore of copy 2 in an array of four. -/
abbrev sem2 (A : DmaSems sig S4) : DmaSem sig := ((A.slice (Rect.unit (s := S4) ![2] S1.size inb_S4_S1_2)).squeeze S_ squeezes_S1_S_).sem
/-- The semaphore of copy 3 in an array of four. -/
abbrev sem3 (A : DmaSems sig S4) : DmaSem sig := ((A.slice (Rect.unit (s := S4) ![3] S1.size inb_S4_S1_3)).squeeze S_ squeezes_S1_S_).sem

/-! ## The resource algebra: the pipeline library's copy, the exchange protocol's, and the local transfers' counters -/

/-- The ghost state: the staging pipeline's, and the exchange's. -/
abbrev UU : Type := UR sig nD τ × (UR sig nD τ × Counters)

local notation "𝕄" => MT nD τ sig Unit (Elt F) ℕ UU ℕ

/-- The pipeline library's copy of the rounds algebra. -/
abbrev EP : Emb (UR sig nD τ) (MT nD τ sig Unit (Elt F) ℕ UU ℕ) := embL
/-- The exchange protocol's copy of the rounds algebra. -/
def ER : Emb (UR sig nD τ) (MT nD τ sig Unit (Elt F) ℕ UU ℕ) :=
  ((Emb.inl : Emb (UR sig nD τ) (UR sig nD τ × Counters)).trans (Emb.inr : Emb (UR sig nD τ × Counters) UU)).trans
    (uEmb (nD := nD) (τ := τ) (sig := sig) (Ix := Unit) (Val := Elt F) (Name := ℕ) (U := UU) (Lvl := ℕ)).toEmb
/-- The exchange's ghost state sits inside the whole. -/
instance ER_landsIn : (ER : Emb (UR sig nD τ) 𝕄).LandsIn (upEmb : UEmb _ 𝕄) := by unfold ER; infer_instance

/-! ## The cells -/

/-- Device `c`'s barrier. -/
abbrev barCell (c : Dev nD) : GSem nD τ sig := ((c : Thread nD τ), .reg barS)
/-- Device `c`'s send semaphore of copy 0. -/
abbrev send0 (c : Dev nD) : GSem nD τ sig := ((c : Thread nD τ), .dma (sem0 cc0_scratch7))
/-- Device `c`'s send semaphore of copy 1. -/
abbrev send1 (c : Dev nD) : GSem nD τ sig := ((c : Thread nD τ), .dma (sem1 cc0_scratch7))
/-- Device `c`'s send semaphore of copy 2. -/
abbrev send2 (c : Dev nD) : GSem nD τ sig := ((c : Thread nD τ), .dma (sem2 cc0_scratch7))
/-- Device `c`'s send semaphore of copy 3. -/
abbrev send3 (c : Dev nD) : GSem nD τ sig := ((c : Thread nD τ), .dma (sem3 cc0_scratch7))
/-- Device `c`'s receive semaphore of copy 0. -/
abbrev recv0 (c : Dev nD) : GSem nD τ sig := ((c : Thread nD τ), .dma (sem0 cc0_scratch8))
/-- Device `c`'s receive semaphore of copy 1. -/
abbrev recv1 (c : Dev nD) : GSem nD τ sig := ((c : Thread nD τ), .dma (sem1 cc0_scratch8))
/-- Device `c`'s receive semaphore of copy 2. -/
abbrev recv2 (c : Dev nD) : GSem nD τ sig := ((c : Thread nD τ), .dma (sem2 cc0_scratch8))
/-- Device `c`'s receive semaphore of copy 3. -/
abbrev recv3 (c : Dev nD) : GSem nD τ sig := ((c : Thread nD τ), .dma (sem3 cc0_scratch8))

/-- The units of the four copies. -/
abbrev N0 : ℕ := mRecv0.view.dmaCredit
/-- The units of copy 1. -/
abbrev N1 : ℕ := (lo mRecv1).view.dmaCredit
/-- The units of copy 2. -/
abbrev N2 : ℕ := (mid mRecv1).view.dmaCredit
/-- The units of copy 3. -/
abbrev N3 : ℕ := (hi mRecv1).view.dmaCredit
/-- Copy 0 has some units. -/
theorem N0_pos : 0 < N0 := View.dmaCredit_pos _ (by decide)
/-- Copy 1 has some units. -/
theorem N1_pos : 0 < N1 := View.dmaCredit_pos _ (by decide)
/-- Copy 2 has some units. -/
theorem N2_pos : 0 < N2 := View.dmaCredit_pos _ (by decide)
/-- Copy 3 has some units. -/
theorem N3_pos : 0 < N3 := View.dmaCredit_pos _ (by decide)

/-- A cell's place in the protocol: 16 the barrier, 8..11 the send semaphores, 12..15 the receive semaphores. -/
def role : SemLoc sig → ℕ
  | .reg s => if s = barS then 16 else 1
  | .dma d => d.val
/-- The barrier has this place in the protocol. -/
theorem role_bar : role (.reg barS) = 16 := by decide
/-- The send semaphore of copy 0 has this place in the protocol. -/
theorem role_send0 : role (.dma (sem0 cc0_scratch7)) = 8 := by decide
/-- The send semaphore of copy 1 has this place in the protocol. -/
theorem role_send1 : role (.dma (sem1 cc0_scratch7)) = 9 := by decide
/-- The send semaphore of copy 2 has this place in the protocol. -/
theorem role_send2 : role (.dma (sem2 cc0_scratch7)) = 10 := by decide
/-- The send semaphore of copy 3 has this place in the protocol. -/
theorem role_send3 : role (.dma (sem3 cc0_scratch7)) = 11 := by decide
/-- The receive semaphore of copy 0 has this place in the protocol. -/
theorem role_recv0 : role (.dma (sem0 cc0_scratch8)) = 12 := by decide
/-- The receive semaphore of copy 1 has this place in the protocol. -/
theorem role_recv1 : role (.dma (sem1 cc0_scratch8)) = 13 := by decide
/-- The receive semaphore of copy 2 has this place in the protocol. -/
theorem role_recv2 : role (.dma (sem2 cc0_scratch8)) = 14 := by decide
/-- The receive semaphore of copy 3 has this place in the protocol. -/
theorem role_recv3 : role (.dma (sem3 cc0_scratch8)) = 15 := by decide

/-! ## What the cells hand over

`G0 c` is what device `c` puts into its scratch0 before it is sent, `G2 c` what it has put into its scratch2 when the last
window of it is sent. -/

/-- The contents of one of the exchange's four buffers. -/
abbrev Cont (F : FTy → Type) : Type := (cc0_scratch0 : Ref sig .tc).ty.Contents (Elt F)

variable (G0 G2 : Dev nD → Cont F)

/-- A view's elements on device `c`, held whole at the contents `f`. -/
abbrev vPts {s : Shape} {e : EltTy} (b : Memref sig .tc .vmem s e) (c : Dev nD) (f : Buf (Elt F) (b.view.loc (c : Thread nD τ))) : sProp 𝕄 :=
  b.view.loc (c : Thread nD τ) ↦[b.view.set]{fullShare} f

/-- To device `c`'s barrier from its partner: the partner's landing buffers, and its open receive cells. -/
def barPay (c : Dev nD) : sProp 𝕄 :=
  iprop((∃ f, vPts mRecv0 (pr c) f) ∗ (∃ f, vPts (lo mRecv1) (pr c) f) ∗ (∃ f, vPts (mid mRecv1) (pr c) f) ∗ (∃ f, vPts (hi mRecv1) (pr c) f)
    ∗ reached ER (recv0 (pr c)) 0 ∗ reached ER (recv1 (pr c)) 0 ∗ reached ER (recv2 (pr c)) 0 ∗ reached ER (recv3 (pr c)) 0)
/-- To the own send cells: the sources back. -/
def sendPay0 (c : Dev nD) : sProp 𝕄 := vPts mSend0 c (G0 c)
/-- Copy 1's send cell gives back the window it read. -/
def sendPay1 (c : Dev nD) : sProp 𝕄 := vPts (lo mSend1) c (G2 c)
/-- Copy 2's send cell gives back the window it read. -/
def sendPay2 (c : Dev nD) : sProp 𝕄 := vPts (mid mSend1) c (G2 c)
/-- Copy 3's send cell gives back the window it read. -/
def sendPay3 (c : Dev nD) : sProp 𝕄 := vPts (hi mSend1) c (G2 c)
/-- To the own receive cells: the landing windows at the partner's contents. -/
def recvPay0 (c : Dev nD) : sProp 𝕄 := vPts mRecv0 c (G0 (pr c))
/-- Copy 1's receive cell hands over the window it wrote, with the partner's rows. -/
def recvPay1 (c : Dev nD) : sProp 𝕄 := vPts (lo mRecv1) c (G2 (pr c))
/-- Copy 2's receive cell hands over the window it wrote, with the partner's rows. -/
def recvPay2 (c : Dev nD) : sProp 𝕄 := vPts (mid mRecv1) c (G2 (pr c))
/-- Copy 3's receive cell hands over the window it wrote, with the partner's rows. -/
def recvPay3 (c : Dev nD) : sProp 𝕄 := vPts (hi mRecv1) c (G2 (pr c))

/-- What the duty of the cell with this role hands over. -/
def payOf (c : Dev nD) : ℕ → sProp 𝕄
  | 16 => barPay c
  | 8 => sendPay0 G0 c
  | 9 => sendPay1 G2 c
  | 10 => sendPay2 G2 c
  | 11 => sendPay3 G2 c
  | 12 => recvPay0 G0 c
  | 13 => recvPay1 G2 c
  | 14 => recvPay2 G2 c
  | 15 => recvPay3 G2 c
  | _ => iprop(emp)

/-- How many units the duty of the cell with this role pays. -/
def amtOf : ℕ → ℕ
  | 8 => N0
  | 9 => N1
  | 10 => N2
  | 11 => N3
  | 12 => N0
  | 13 => N1
  | 14 => N2
  | 15 => N3
  | _ => 1

/-- Every cell's amount is positive. -/
theorem amtOf_pos (n : ℕ) : 0 < amtOf n := by
  unfold amtOf
  split <;> first | exact N0_pos | exact N1_pos | exact N2_pos | exact N3_pos | exact Nat.one_pos

/-- The cells of the protocol. -/
abbrev IsCell (g : GSem nD τ sig) : Prop := g.1.2 = .tc ∧ 8 ≤ role g.2

/-- One round, one duty on every cell. -/
def rd : Rounds.Schedule (GSem nD τ sig) Unit 𝕄 where
  duties g r := if r = 0 ∧ IsCell g then {()} else ∅
  unitless _ := False
  amount g _ _ := amtOf (role g.2)
  payload g _ _ := payOf G0 G2 g.1.1 (role g.2)
  amount_pos g _ _ _ := amtOf_pos _

/-- Holding a window may be kept in an invariant, -/
instance vPts_storable {s : Shape} {e : EltTy} (b : Memref sig .tc .vmem s e) (c : Dev nD) (f : Buf (Elt F) (b.view.loc (c : Thread nD τ))) :
    BI.Storable (upEmb : UEmb _ 𝕄) (vPts b c f) := by unfold vPts; infer_instance
/-- so may what the barrier hands over, -/
instance barPay_storable (c : Dev nD) : BI.Storable (upEmb : UEmb _ 𝕄) (barPay (F := F) c) := by
  unfold barPay
  set_option synthInstance.maxHeartbeats 400000 in infer_instance
/-- and so what any cell does. -/
instance rd_payload_storable (g : GSem nD τ sig) (r : ℕ) (d : Unit) :
    BI.Storable (upEmb : UEmb _ 𝕄) ((rd (F := F) G0 G2).payload g r d) := by
  show BI.Storable upEmb (payOf G0 G2 g.1.1 (role g.2))
  unfold payOf
  split
  · exact barPay_storable _
  all_goals first | exact vPts_storable _ _ _ | infer_instance

/-! ## The schedule's tables -/

section Tables

variable (c : Dev nD)

/-- A protocol cell has its one duty in round 0, -/
theorem duties_cell (g : GSem nD τ sig) (h : IsCell g) : (rd (F := F) G0 G2).duties g 0 = {()} := if_pos ⟨rfl, h⟩
/-- none later, -/
theorem duties_later (g : GSem nD τ sig) : ∀ r, 1 ≤ r → (rd (F := F) G0 G2).duties g r = ∅ :=
  fun r hr => if_neg (fun h => by omega)
/-- and its wait takes that duty's amount. -/
theorem expect_cell (g : GSem nD τ sig) (h : IsCell g) : (rd (F := F) G0 G2).expect g 0 = amtOf (role g.2) := by
  unfold Schedule.expect Schedule.amountOf; rw [duties_cell _ _ _ h, Finset.sum_singleton]; rfl

/-- The barrier is one of the protocol's cells. -/
theorem is_bar : IsCell (barCell c) := ⟨rfl, by rw [role_bar]; decide⟩
/-- The barrier has one duty, in round 0. -/
theorem duties_bar : (rd (F := F) G0 G2).duties (barCell c) 0 = {()} := duties_cell _ _ _ (is_bar c)
/-- That duty's amount at the barrier. -/
theorem amount_bar (u : Unit) : (rd (F := F) G0 G2).amount (barCell c) 0 u = 1 := by dsimp only [rd]; rw [role_bar]; rfl
/-- What a wait on the barrier takes in round 0. -/
theorem expect_bar : (rd (F := F) G0 G2).expect (barCell c) 0 = 1 := by rw [expect_cell _ _ _ (is_bar c), role_bar]; rfl
/-- What the barrier hands over. -/
theorem payload_bar (u : Unit) : (rd (F := F) G0 G2).payload (barCell c) 0 u = barPay c := by dsimp only [rd]; rw [role_bar]; rfl
/-- The send semaphore of copy 0 is one of the protocol's cells. -/
theorem is_send0 : IsCell (send0 c) := ⟨rfl, by rw [role_send0]⟩
/-- The send semaphore of copy 0 has one duty, in round 0. -/
theorem duties_send0 : (rd (F := F) G0 G2).duties (send0 c) 0 = {()} := duties_cell _ _ _ (is_send0 c)
/-- That duty's amount at the send semaphore of copy 0. -/
theorem amount_send0 (u : Unit) : (rd (F := F) G0 G2).amount (send0 c) 0 u = N0 := by dsimp only [rd]; rw [role_send0]; rfl
/-- What a wait on the send semaphore of copy 0 takes in round 0. -/
theorem expect_send0 : (rd (F := F) G0 G2).expect (send0 c) 0 = N0 := by rw [expect_cell _ _ _ (is_send0 c), role_send0]; rfl
/-- What the send semaphore of copy 0 hands over. -/
theorem payload_send0 (u : Unit) : (rd (F := F) G0 G2).payload (send0 c) 0 u = sendPay0 G0 c := by dsimp only [rd]; rw [role_send0]; rfl
/-- The send semaphore of copy 1 is one of the protocol's cells. -/
theorem is_send1 : IsCell (send1 c) := ⟨rfl, by rw [role_send1]; decide⟩
/-- The send semaphore of copy 1 has one duty, in round 0. -/
theorem duties_send1 : (rd (F := F) G0 G2).duties (send1 c) 0 = {()} := duties_cell _ _ _ (is_send1 c)
/-- That duty's amount at the send semaphore of copy 1. -/
theorem amount_send1 (u : Unit) : (rd (F := F) G0 G2).amount (send1 c) 0 u = N1 := by dsimp only [rd]; rw [role_send1]; rfl
/-- What a wait on the send semaphore of copy 1 takes in round 0. -/
theorem expect_send1 : (rd (F := F) G0 G2).expect (send1 c) 0 = N1 := by rw [expect_cell _ _ _ (is_send1 c), role_send1]; rfl
/-- What the send semaphore of copy 1 hands over. -/
theorem payload_send1 (u : Unit) : (rd (F := F) G0 G2).payload (send1 c) 0 u = sendPay1 G2 c := by dsimp only [rd]; rw [role_send1]; rfl
/-- The send semaphore of copy 2 is one of the protocol's cells. -/
theorem is_send2 : IsCell (send2 c) := ⟨rfl, by rw [role_send2]; decide⟩
/-- The send semaphore of copy 2 has one duty, in round 0. -/
theorem duties_send2 : (rd (F := F) G0 G2).duties (send2 c) 0 = {()} := duties_cell _ _ _ (is_send2 c)
/-- That duty's amount at the send semaphore of copy 2. -/
theorem amount_send2 (u : Unit) : (rd (F := F) G0 G2).amount (send2 c) 0 u = N2 := by dsimp only [rd]; rw [role_send2]; rfl
/-- What a wait on the send semaphore of copy 2 takes in round 0. -/
theorem expect_send2 : (rd (F := F) G0 G2).expect (send2 c) 0 = N2 := by rw [expect_cell _ _ _ (is_send2 c), role_send2]; rfl
/-- What the send semaphore of copy 2 hands over. -/
theorem payload_send2 (u : Unit) : (rd (F := F) G0 G2).payload (send2 c) 0 u = sendPay2 G2 c := by dsimp only [rd]; rw [role_send2]; rfl
/-- The send semaphore of copy 3 is one of the protocol's cells. -/
theorem is_send3 : IsCell (send3 c) := ⟨rfl, by rw [role_send3]; decide⟩
/-- The send semaphore of copy 3 has one duty, in round 0. -/
theorem duties_send3 : (rd (F := F) G0 G2).duties (send3 c) 0 = {()} := duties_cell _ _ _ (is_send3 c)
/-- That duty's amount at the send semaphore of copy 3. -/
theorem amount_send3 (u : Unit) : (rd (F := F) G0 G2).amount (send3 c) 0 u = N3 := by dsimp only [rd]; rw [role_send3]; rfl
/-- What a wait on the send semaphore of copy 3 takes in round 0. -/
theorem expect_send3 : (rd (F := F) G0 G2).expect (send3 c) 0 = N3 := by rw [expect_cell _ _ _ (is_send3 c), role_send3]; rfl
/-- What the send semaphore of copy 3 hands over. -/
theorem payload_send3 (u : Unit) : (rd (F := F) G0 G2).payload (send3 c) 0 u = sendPay3 G2 c := by dsimp only [rd]; rw [role_send3]; rfl
/-- The receive semaphore of copy 0 is one of the protocol's cells. -/
theorem is_recv0 : IsCell (recv0 c) := ⟨rfl, by rw [role_recv0]; decide⟩
/-- The receive semaphore of copy 0 has one duty, in round 0. -/
theorem duties_recv0 : (rd (F := F) G0 G2).duties (recv0 c) 0 = {()} := duties_cell _ _ _ (is_recv0 c)
/-- That duty's amount at the receive semaphore of copy 0. -/
theorem amount_recv0 (u : Unit) : (rd (F := F) G0 G2).amount (recv0 c) 0 u = N0 := by dsimp only [rd]; rw [role_recv0]; rfl
/-- What a wait on the receive semaphore of copy 0 takes in round 0. -/
theorem expect_recv0 : (rd (F := F) G0 G2).expect (recv0 c) 0 = N0 := by rw [expect_cell _ _ _ (is_recv0 c), role_recv0]; rfl
/-- What the receive semaphore of copy 0 hands over. -/
theorem payload_recv0 (u : Unit) : (rd (F := F) G0 G2).payload (recv0 c) 0 u = recvPay0 G0 c := by dsimp only [rd]; rw [role_recv0]; rfl
/-- The receive semaphore of copy 1 is one of the protocol's cells. -/
theorem is_recv1 : IsCell (recv1 c) := ⟨rfl, by rw [role_recv1]; decide⟩
/-- The receive semaphore of copy 1 has one duty, in round 0. -/
theorem duties_recv1 : (rd (F := F) G0 G2).duties (recv1 c) 0 = {()} := duties_cell _ _ _ (is_recv1 c)
/-- That duty's amount at the receive semaphore of copy 1. -/
theorem amount_recv1 (u : Unit) : (rd (F := F) G0 G2).amount (recv1 c) 0 u = N1 := by dsimp only [rd]; rw [role_recv1]; rfl
/-- What a wait on the receive semaphore of copy 1 takes in round 0. -/
theorem expect_recv1 : (rd (F := F) G0 G2).expect (recv1 c) 0 = N1 := by rw [expect_cell _ _ _ (is_recv1 c), role_recv1]; rfl
/-- What the receive semaphore of copy 1 hands over. -/
theorem payload_recv1 (u : Unit) : (rd (F := F) G0 G2).payload (recv1 c) 0 u = recvPay1 G2 c := by dsimp only [rd]; rw [role_recv1]; rfl
/-- The receive semaphore of copy 2 is one of the protocol's cells. -/
theorem is_recv2 : IsCell (recv2 c) := ⟨rfl, by rw [role_recv2]; decide⟩
/-- The receive semaphore of copy 2 has one duty, in round 0. -/
theorem duties_recv2 : (rd (F := F) G0 G2).duties (recv2 c) 0 = {()} := duties_cell _ _ _ (is_recv2 c)
/-- That duty's amount at the receive semaphore of copy 2. -/
theorem amount_recv2 (u : Unit) : (rd (F := F) G0 G2).amount (recv2 c) 0 u = N2 := by dsimp only [rd]; rw [role_recv2]; rfl
/-- What a wait on the receive semaphore of copy 2 takes in round 0. -/
theorem expect_recv2 : (rd (F := F) G0 G2).expect (recv2 c) 0 = N2 := by rw [expect_cell _ _ _ (is_recv2 c), role_recv2]; rfl
/-- What the receive semaphore of copy 2 hands over. -/
theorem payload_recv2 (u : Unit) : (rd (F := F) G0 G2).payload (recv2 c) 0 u = recvPay2 G2 c := by dsimp only [rd]; rw [role_recv2]; rfl
/-- The receive semaphore of copy 3 is one of the protocol's cells. -/
theorem is_recv3 : IsCell (recv3 c) := ⟨rfl, by rw [role_recv3]; decide⟩
/-- The receive semaphore of copy 3 has one duty, in round 0. -/
theorem duties_recv3 : (rd (F := F) G0 G2).duties (recv3 c) 0 = {()} := duties_cell _ _ _ (is_recv3 c)
/-- That duty's amount at the receive semaphore of copy 3. -/
theorem amount_recv3 (u : Unit) : (rd (F := F) G0 G2).amount (recv3 c) 0 u = N3 := by dsimp only [rd]; rw [role_recv3]; rfl
/-- What a wait on the receive semaphore of copy 3 takes in round 0. -/
theorem expect_recv3 : (rd (F := F) G0 G2).expect (recv3 c) 0 = N3 := by rw [expect_cell _ _ _ (is_recv3 c), role_recv3]; rfl
/-- What the receive semaphore of copy 3 hands over. -/
theorem payload_recv3 (u : Unit) : (rd (F := F) G0 G2).payload (recv3 c) 0 u = recvPay3 G2 c := by dsimp only [rd]; rw [role_recv3]; rfl

end Tables

/-! ## What each core owes at launch; the levels -/

/-- The credits of the partner's receive cells 1, 2, 3. -/
abbrev Ob (c : Dev nD) : CellTallies nD τ sig Unit := tallyAt (recv3 (pr c)) () N3 + tallyAt (recv2 (pr c)) () N2 + tallyAt (recv1 (pr c)) () N1
/-- With the credit of its receive cell 0. -/
abbrev Oa (c : Dev nD) : CellTallies nD τ sig Unit := Ob c + tallyAt (recv0 (pr c)) () N0
/-- With the partner's barrier unit: all that device `c` owes at launch. -/
abbrev O₀ (c : Dev nD) : CellTallies nD τ sig Unit := Oa c + tallyAt (barCell (pr c)) () 1

/-- One index per cell of a TensorCore. -/
def L (g : GSem nD τ sig) : Finset Unit := if g.1.2 = .tc then {()} else ∅
/-- Levels by role: the local and send cells 0, the barrier 1, receive cell 0 at 2, receive cells 1, 2, 3 at 3. -/
def lvOf : ℕ → ℕ
  | 16 => 1
  | 12 => 2
  | 13 => 3
  | 14 => 3
  | 15 => 3
  | _ => 0
/-- A cell's level. -/
def lv (g : GSem nD τ sig) (_ : Unit) : ℕ := lvOf (role g.2)

/-- No index off the TensorCores; -/
theorem L_of_ne (g : GSem nD τ sig) (h : g.1.2 ≠ .tc) : L g = ∅ := if_neg h
/-- one at each cell on them. -/
theorem L_tc (c : Dev nD) (sm : SemLoc sig) : L ((c : Thread nD τ), sm) = {()} := if_pos rfl

/-- A tally on one cell is owed nowhere else. -/
theorem tallyAt_pos {g g' : GSem nD τ sig} {n : ℕ} {u u' : Unit} (h : 0 < tallyAt g u n g' u') : g' = g := by
  rw [tallyAt_apply] at h
  by_contra hne
  rw [if_neg (fun hh => hne hh.1)] at h
  exact Nat.lt_irrefl 0 h

/-- Where `Ob` is positive. -/
theorem Ob_pos {c : Dev nD} {g : GSem nD τ sig} {u : Unit} (h : 0 < Ob c g u) : g = recv3 (pr c) ∨ g = recv2 (pr c) ∨ g = recv1 (pr c) := by
  rcases Nat.add_pos_iff_pos_or_pos.mp (show 0 < (tallyAt (recv3 (pr c)) () N3 g u + tallyAt (recv2 (pr c)) () N2 g u) + tallyAt (recv1 (pr c)) () N1 g u from h) with h | h
  · rcases Nat.add_pos_iff_pos_or_pos.mp h with h | h
    · exact .inl (tallyAt_pos h)
    · exact .inr (.inl (tallyAt_pos h))
  · exact .inr (.inr (tallyAt_pos h))

/-- A cell of level below 3 may be waited on while the receive cells 1, 2, 3 are owed. -/
theorem mayWait_b (c : Dev nD) (sm : SemLoc sig) (hsm : lvOf (role sm) ≤ 2) :
    (levAts L lv : sProp 𝕄) ⊢ MayWait (c : Thread nD τ) sm () (Ob c) :=
  MayOwe.of_cut (L := L) (lev := lv) 2 (fun p hp => by rw [Finset.mem_singleton.mp hp, L_tc]; exact Finset.mem_singleton_self _)
    (fun g u hg => by
      rcases Ob_pos hg with h | h | h <;> (rw [h, L_tc]; exact Finset.mem_singleton_self _))
    (fun p hp => by rw [Finset.mem_singleton.mp hp]; exact hsm)
    (fun g u hg => by
      rcases Ob_pos hg with h | h | h <;> (rw [h]; dsimp only [lv]; first | rw [role_recv3] | rw [role_recv2] | rw [role_recv1]) <;> decide)

/-- The barrier may be waited on while all four receive cells of the partner are owed. -/
theorem mayWait_bar (c : Dev nD) :
    (levAts L lv : sProp 𝕄) ⊢ MayWait (c : Thread nD τ) (.reg barS) () (Oa c) :=
  MayOwe.of_cut (L := L) (lev := lv) 1 (fun p hp => by rw [Finset.mem_singleton.mp hp, L_tc]; exact Finset.mem_singleton_self _)
    (fun g u hg => by
      rcases Nat.add_pos_iff_pos_or_pos.mp (show 0 < Ob c g u + tallyAt (recv0 (pr c)) () N0 g u from hg) with h | h
      · rcases Ob_pos h with h | h | h <;> (rw [h, L_tc]; exact Finset.mem_singleton_self _)
      · rw [tallyAt_pos h, L_tc]; exact Finset.mem_singleton_self _)
    (fun p hp => by rw [Finset.mem_singleton.mp hp]; dsimp only [lv]; rw [role_bar]; decide)
    (fun g u hg => by
      rcases Nat.add_pos_iff_pos_or_pos.mp (show 0 < Ob c g u + tallyAt (recv0 (pr c)) () N0 g u from hg) with h | h
      · rcases Ob_pos h with h | h | h <;> (rw [h]; dsimp only [lv]; first | rw [role_recv3] | rw [role_recv2] | rw [role_recv1]) <;> decide
      · rw [tallyAt_pos h]; dsimp only [lv]; rw [role_recv0]; decide)

end Cert.KernelIdeal.Moe
-- ==== Proof.Values.lean ====
/-
  What the body makes of its operands on each device, as closed terms over any float values: the tokens it sends, the
  rows it serves for its partner, and the block it leaves in its output window.
-/
module

public import proofs.«01_k».proof.Proof.Protocol
public import Idealize.ShloMosaic.Lib.Pipeline.FrameBody
public import Idealize.ShloMosaic.Lib.Pipeline.Value

@[expose] public section

set_option maxRecDepth 16384

noncomputable section

namespace Cert.KernelIdeal.Moe

open Cert.KernelIdeal Cert.KernelIdeal.Gen
open Idealize.ShloMosaic Idealize.ShloMosaic.TcCoe

variable {F : FTy → Type} [FloatOps F]

/-- What one device's body reads: its tokens, the positions of its tokens among each expert's (as columns, and as rows),
    and its two experts' weights. -/
structure In (F : FTy → Type) where
  x : S1024x1024.Idx → Elt F .bf16
  pc : S4x1024x1.Idx → Elt F .i32
  pq : S4x1x1024.Idx → Elt F .i32
  W1 : S2x1024x2048.Idx → Elt F .f32
  W2 : S2x2048x1024.Idx → Elt F .f32

/-! ## The boxes the body loads and stores -/

/-- The whole array of tokens. -/
abbrev xB : Rect S1024x1024 := Rect.unit (s := S1024x1024) ![0, 0] S1024x1024.size inb_S1024x1024_S1024x1024_0_0
/-- Row 0 of the positions laid along rows. -/
abbrev qB0 : Rect S4x1x1024 := Rect.unit (s := S4x1x1024) ![0, 0, 0] S1x1x1024.size inb_S4x1x1024_S1x1x1024_0_0_0
/-- Row 1 of the positions laid along rows. -/
abbrev qB1 : Rect S4x1x1024 := Rect.unit (s := S4x1x1024) ![1, 0, 0] S1x1x1024.size inb_S4x1x1024_S1x1x1024_1_0_0
/-- Row 2 of the positions laid along rows. -/
abbrev qB2 : Rect S4x1x1024 := Rect.unit (s := S4x1x1024) ![2, 0, 0] S1x1x1024.size inb_S4x1x1024_S1x1x1024_2_0_0
/-- Row 3 of the positions laid along rows. -/
abbrev qB3 : Rect S4x1x1024 := Rect.unit (s := S4x1x1024) ![3, 0, 0] S1x1x1024.size inb_S4x1x1024_S1x1x1024_3_0_0
/-- Row 0 of the positions laid along columns. -/
abbrev cB0 : Rect S4x1024x1 := Rect.unit (s := S4x1024x1) ![0, 0, 0] S1x1024x1.size inb_S4x1024x1_S1x1024x1_0_0_0
/-- Row 1 of the positions laid along columns. -/
abbrev cB1 : Rect S4x1024x1 := Rect.unit (s := S4x1024x1) ![1, 0, 0] S1x1024x1.size inb_S4x1024x1_S1x1024x1_1_0_0
/-- Row 2 of the positions laid along columns. -/
abbrev cB2 : Rect S4x1024x1 := Rect.unit (s := S4x1024x1) ![2, 0, 0] S1x1024x1.size inb_S4x1024x1_S1x1024x1_2_0_0
/-- Row 3 of the positions laid along columns. -/
abbrev cB3 : Rect S4x1024x1 := Rect.unit (s := S4x1024x1) ![3, 0, 0] S1x1024x1.size inb_S4x1024x1_S1x1024x1_3_0_0
/-- The first expert's first matrix; -/
abbrev u1B0 : Rect S2x1024x2048 := Rect.unit (s := S2x1024x2048) ![0, 0, 0] S1x1024x2048.size inb_S2x1024x2048_S1x1024x2048_0_0_0
/-- the second expert's; -/
abbrev u1B1 : Rect S2x1024x2048 := Rect.unit (s := S2x1024x2048) ![1, 0, 0] S1x1024x2048.size inb_S2x1024x2048_S1x1024x2048_1_0_0
/-- the first expert's second matrix; -/
abbrev u2B0 : Rect S2x2048x1024 := Rect.unit (s := S2x2048x1024) ![0, 0, 0] S1x2048x1024.size inb_S2x2048x1024_S1x2048x1024_0_0_0
/-- the second expert's. -/
abbrev u2B1 : Rect S2x2048x1024 := Rect.unit (s := S2x2048x1024) ![1, 0, 0] S1x2048x1024.size inb_S2x2048x1024_S1x2048x1024_1_0_0
/-- The second expert's rows, whole. -/
abbrev rUp : Rect S2x320x1024 := Rect.unit (s := S2x320x1024) ![1, 0, 0] S1x320x1024.size inb_S2x320x1024_S1x320x1024_1_0_0

/-! ## The values -/

/-- The tokens sent: those assigned to the partner's first expert, and to its second. -/
def sent (I : In F) : S2x320x1024.Idx → Elt F .bf16 :=
  View.canon (Val := Elt F) [⟨rUp, k0_pay4 (k0_pay3 (View.ld I.pq qB3) (View.ld I.x xB))⟩, ⟨rLo, k0_pay2 (View.ld I.pq qB2) (View.ld I.x xB)⟩]

/-- The rows served for the tokens `R` received: the first expert's, and the two halves of the second's; -/
def pay9 (I : In F) (R : S2x320x1024.Idx → Elt F .bf16) : rLo.shape.Idx → Elt F .bf16 :=
  k0_pay9 (View.ld R rLo) (View.ld I.W1 u1B0) (View.ld I.W2 u2B0)
/-- the second expert's first half, -/
def pay10 (I : In F) (R : S2x320x1024.Idx → Elt F .bf16) : rMid.shape.Idx → Elt F .bf16 :=
  k0_pay10 (View.ld R rMid) (View.ld I.W1 u1B1) (View.ld I.W2 u2B1)
/-- and its second half; -/
def pay11 (I : In F) (R : S2x320x1024.Idx → Elt F .bf16) : rHi.shape.Idx → Elt F .bf16 :=
  k0_pay11 (View.ld R rHi) (View.ld I.W1 u1B1) (View.ld I.W2 u2B1)
/-- together. -/
def served (I : In F) (R : S2x320x1024.Idx → Elt F .bf16) : S2x320x1024.Idx → Elt F .bf16 :=
  View.canon (Val := Elt F) [⟨rHi, pay11 I R⟩, ⟨rMid, pay10 I R⟩, ⟨rLo, pay9 I R⟩]

/-- The own experts' share of the output. -/
def ownPart (I : In F) : S1024x1024.Idx → Elt F .f32 :=
  k0_pay12 (k0_pay6 (k0_pay5 (View.ld I.pq qB0) (View.ld I.x xB)) (View.ld I.W1 u1B0) (View.ld I.W2 u2B0))
    (k0_pay8 (k0_pay7 (View.ld I.pq qB1) (View.ld I.x xB)) (View.ld I.W1 u1B1) (View.ld I.W2 u2B1)) (View.ld I.pc cB0) (View.ld I.pc cB1)

/-- The output block, with the rows `S` the partner served. -/
def outBlock (I : In F) (S : S2x320x1024.Idx → Elt F .bf16) : S1024x1024.Idx → Elt F .f32 :=
  k0_pay1 (k0_pay13 (View.ld I.pc cB2) (View.ld S rLo)) (k0_pay14 (View.ld I.pc cB3))
    (k0_pay15 (k0_pay14 (View.ld I.pc cB3)) (View.ld S rMid)) (ownPart I) (View.ld S rHi)

/-- Device `c`'s scratch0 when it is sent, its scratch2 when its last window is sent, and its output window at the end. -/
abbrev G0of (I : Dev nD → In F) (c : Dev nD) : Cont F := sent (I c)
/-- Device `c`'s scratch2 when its last window is sent; -/
abbrev G2of (I : Dev nD → In F) (c : Dev nD) : Cont F := served (I c) (sent (I (pr c)))
/-- its output block at the end. -/
def outOf (I : Dev nD → In F) (c : Dev nD) : S1024x1024.Idx → Elt F .f32 := outBlock (I c) (G2of I (pr c))

end Cert.KernelIdeal.Moe
-- ==== Proof.Windows.lean ====
/-
  The buffers cut into the windows that the copies read and write: what a store into a window leaves, what lands in one,
  and how a buffer's windows make the buffer.
-/
module

public import proofs.«01_k».proof.Proof.Values

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-- A whole buffer held on device `c` with contents `f`. -/
abbrev pt (c : Dev nD) (b : Ref sig .tc) (f : b.ty.Contents (Elt F)) : sProp 𝕄 := (Memref.whole b).view.loc (c : Thread nD τ) ↦{fullShare} f

/-- The scratch copies of the experts' first matrices -/
abbrev mW1 : Memref sig .tc .vmem S2x1024x2048 .f32 := Memref.whole cc0_scratch4
/-- and second ones; -/
abbrev mW2 : Memref sig .tc .vmem S2x2048x1024 .f32 := Memref.whole cc0_scratch5
/-- the first expert's first matrix as a window, -/
abbrev w1a (b : Memref sig .tc .vmem S2x1024x2048 .f32) : Memref sig .tc .vmem S1024x2048 .f32 :=
  (b.slice (Rect.unit (s := S2x1024x2048) ![0, 0, 0] S1x1024x2048.size inb_S2x1024x2048_S1x1024x2048_0_0_0) (fun _ => rfl)).squeeze S1024x2048 squeezes_S1x1024x2048_S1024x2048
/-- the second's, -/
abbrev w1b (b : Memref sig .tc .vmem S2x1024x2048 .f32) : Memref sig .tc .vmem S1024x2048 .f32 :=
  (b.slice (Rect.unit (s := S2x1024x2048) ![1, 0, 0] S1x1024x2048.size inb_S2x1024x2048_S1x1024x2048_1_0_0) (fun _ => rfl)).squeeze S1024x2048 squeezes_S1x1024x2048_S1024x2048
/-- the first expert's second matrix, -/
abbrev w2a (b : Memref sig .tc .vmem S2x2048x1024 .f32) : Memref sig .tc .vmem S2048x1024 .f32 :=
  (b.slice (Rect.unit (s := S2x2048x1024) ![0, 0, 0] S1x2048x1024.size inb_S2x2048x1024_S1x2048x1024_0_0_0) (fun _ => rfl)).squeeze S2048x1024 squeezes_S1x2048x1024_S2048x1024
/-- the second's. -/
abbrev w2b (b : Memref sig .tc .vmem S2x2048x1024 .f32) : Memref sig .tc .vmem S2048x1024 .f32 :=
  (b.slice (Rect.unit (s := S2x2048x1024) ![1, 0, 0] S1x2048x1024.size inb_S2x2048x1024_S1x2048x1024_1_0_0) (fun _ => rfl)).squeeze S2048x1024 squeezes_S1x2048x1024_S2048x1024

/-- The two stores into the send buffer cover it. -/
theorem cover0 (y : S2x320x1024.Idx) (p1 : rUp.shape.Idx → Elt F .bf16) (p0 : rLo.shape.Idx → Elt F .bf16) :
    ∃ p ∈ ([⟨rUp, p1⟩, ⟨rLo, p0⟩] : List (View.Piece (Elt F) S2x320x1024 .bf16)), y ∈ p.1.set := by
  by_cases h : (y 0).val = 0
  · refine ⟨_, List.mem_cons_of_mem _ (List.mem_singleton_self _), ?_⟩
    rw [Rect.mem_set_unit]
    intro a; fin_cases a
    · exact ⟨Nat.zero_le _, by show (y 0).val < 0 + 1; omega⟩
    · exact ⟨Nat.zero_le _, by show (y 1).val < 0 + 320; have := (y 1).isLt; exact this⟩
    · exact ⟨Nat.zero_le _, by show (y 2).val < 0 + 1024; have := (y 2).isLt; exact this⟩
  · refine ⟨_, List.mem_cons_self, ?_⟩
    rw [Rect.mem_set_unit]
    intro a; fin_cases a
    · exact ⟨by show 1 ≤ (y 0).val; omega, by show (y 0).val < 1 + 1; have : (y 0).val < 2 := (y 0).isLt; omega⟩
    · exact ⟨Nat.zero_le _, by show (y 1).val < 0 + 320; have := (y 1).isLt; exact this⟩
    · exact ⟨Nat.zero_le _, by show (y 2).val < 0 + 1024; have := (y 2).isLt; exact this⟩

/-- A window's elements at two contents that read the same through the window. -/
theorem vPts_of_read {s : Shape} {e : EltTy} (b : Memref sig .tc .vmem s e) (c : Dev nD) (f g : Buf (Elt F) (b.view.loc (c : Thread nD τ)))
    (h : b.view.read (Elt F) f = b.view.read (Elt F) g) : (vPts b c f : sProp 𝕄) = vPts b c g := by
  refine pointsTo_congr fun i hi => ?_
  obtain ⟨x, -, rfl⟩ := Finset.mem_map.mp hi
  have hx := congrFun h x
  rw [View.read_apply, View.read_apply] at hx
  exact (Equiv.cast (congrArg (Elt F) b.view.elt_eq)).injective hx

/-- A window written whole reads as the payload. -/
theorem read_writes_whole {s : Shape} {e : EltTy} (b : Memref sig .tc .vmem s e) (f : b.view.ty.Contents (Elt F)) (p : s.Idx → Elt F e) :
    b.view.read (Elt F) (b.view.writes (Elt F) f [⟨Rect.whole s, p⟩]) = p := by
  funext x
  have h := View.read_writes_cons_emb b.view f (Rect.whole s) p [] x
  rwa [Rect.emb_whole_apply] at h

/-- A window written whole with what it reads of `g` is the window at `g`. -/
theorem vPts_landed {s : Shape} {e : EltTy} (b : Memref sig .tc .vmem s e) (c : Dev nD) (f : Buf (Elt F) (b.view.loc (c : Thread nD τ))) (p : s.Idx → Elt F e)
    (g : Buf (Elt F) (b.view.loc (c : Thread nD τ))) (h : p = b.view.read (Elt F) g) :
    (vPts b c (b.view.writes (Elt F) f [⟨Rect.whole s, p⟩]) : sProp 𝕄) = vPts b c g :=
  vPts_of_read b c _ _ ((read_writes_whole b f p).trans h)

/-- A store through a box of a buffer leaves its elements at `G` as soon as the payload is `G` at the box's elements. -/
theorem pts_stored {s : Shape} {e : EltTy} (b : Memref sig .tc .vmem s e) (c : Dev nD) (r : Rect s) (g G : b.view.ty.Contents (Elt F)) (p : r.shape.Idx → Elt F e)
    (h : ∀ x, b.view.read (Elt F) G (r.emb x) = p x) :
    ((b.view.loc (c : Thread nD τ)) ↦[(b.access r).set]{fullShare} ((b.access r).write (Elt F) g p Finset.univ) : sProp 𝕄)
      = (b.view.loc (c : Thread nD τ)) ↦[(b.access r).set]{fullShare} G := by
  refine pointsTo_congr fun i hi => ?_
  obtain ⟨x, -, rfl⟩ := Finset.mem_map.mp hi
  have hx : (b.access r).read (Elt F) ((b.access r).write (Elt F) g p Finset.univ) x = (b.access r).read (Elt F) G x :=
    (View.read_write_of_mem _ _ (Finset.mem_univ x)).trans (h x).symm
  rw [View.read_apply, View.read_apply] at hx
  exact (Equiv.cast (congrArg (Elt F) (b.access r).elt_eq)).injective hx

/-- A store into the lower half, whatever was there, leaves a buffer that agrees with it there; -/
theorem lo_stored (c : Dev nD) (g G : Cont F) (p : rLo.shape.Idx → Elt F .bf16) (h : ∀ x, G (rLo.emb x) = p x) :
    (vPts (lo mSend1) c ((mSend1.access rLo).write (Elt F) g p Finset.univ) : sProp 𝕄) = vPts (lo mSend1) c G := by
  have h' := pts_stored mSend1 c rLo g G p h
  rw [← View.set_reshape (v := mSend1.access rLo) squeezes_S1x320x1024_S320x1024.numel_eq] at h'
  exact h'
/-- so for the third quarter, -/
theorem mid_stored (c : Dev nD) (g G : Cont F) (p : rMid.shape.Idx → Elt F .bf16) (h : ∀ x, G (rMid.emb x) = p x) :
    (vPts (mid mSend1) c ((mSend1.access rMid).write (Elt F) g p Finset.univ) : sProp 𝕄) = vPts (mid mSend1) c G := by
  have h' := pts_stored mSend1 c rMid g G p h
  rw [← View.set_reshape (v := mSend1.access rMid) squeezes_S1x160x1024_S160x1024.numel_eq] at h'
  exact h'
/-- and for the last. -/
theorem hi_stored (c : Dev nD) (g G : Cont F) (p : rHi.shape.Idx → Elt F .bf16) (h : ∀ x, G (rHi.emb x) = p x) :
    (vPts (hi mSend1) c ((mSend1.access rHi).write (Elt F) g p Finset.univ) : sProp 𝕄) = vPts (hi mSend1) c G := by
  have h' := pts_stored mSend1 c rHi g G p h
  rw [← View.set_reshape (v := mSend1.access rHi) squeezes_S1x160x1024_S160x1024.numel_eq] at h'
  exact h'

/-- An element of the first expert's rows is in neither half of the second's; -/
theorem lo_not_hi (x : rLo.shape.Idx) : rLo.emb x ∉ rHi.set := by
  rw [Rect.mem_set_unit]; intro h
  have h0 := (h 0).1
  have : ((rLo.emb x) 0).val = 0 + 1 * (x 0).val := rfl
  have hx : (x 0).val < 1 := (x 0).isLt
  have h1 : 1 ≤ ((rLo.emb x) 0).val := h0
  omega
/-- The lower half is not in the third quarter. -/
theorem lo_not_mid (x : rLo.shape.Idx) : rLo.emb x ∉ rMid.set := by
  rw [Rect.mem_set_unit]; intro h
  have h0 := (h 0).1
  have : ((rLo.emb x) 0).val = 0 + 1 * (x 0).val := rfl
  have hx : (x 0).val < 1 := (x 0).isLt
  have h1 : 1 ≤ ((rLo.emb x) 0).val := h0
  omega
/-- nor one of the first half in the second. -/
theorem mid_not_hi (x : rMid.shape.Idx) : rMid.emb x ∉ rHi.set := by
  rw [Rect.mem_set_unit]; intro h
  have h0 := (h 1).1
  have : ((rMid.emb x) 1).val = 0 + 1 * (x 1).val := rfl
  have hx : (x 1).val < 160 := (x 1).isLt
  have h1 : 160 ≤ ((rMid.emb x) 1).val := h0
  omega

/-- The rows served, at the three boxes. -/
theorem served_lo (I : In F) (R : S2x320x1024.Idx → Elt F .bf16) (x : rLo.shape.Idx) :
    served I R (rLo.emb x) = pay9 I R x := by
  unfold served
  rw [View.canon_cons_of_not_mem ⟨rHi, pay11 I R⟩ _ (lo_not_hi x), View.canon_cons_of_not_mem ⟨rMid, pay10 I R⟩ _ (lo_not_mid x), View.canon_cons_emb]
/-- The third quarter of the rows served, -/
theorem served_mid (I : In F) (R : S2x320x1024.Idx → Elt F .bf16) (x : rMid.shape.Idx) :
    served I R (rMid.emb x) = pay10 I R x := by
  unfold served
  rw [View.canon_cons_of_not_mem ⟨rHi, pay11 I R⟩ _ (mid_not_hi x), View.canon_cons_emb]
/-- and the last. -/
theorem served_hi (I : In F) (R : S2x320x1024.Idx → Elt F .bf16) (x : rHi.shape.Idx) :
    served I R (rHi.emb x) = pay11 I R x := by
  unfold served
  rw [View.canon_cons_emb]

/-- What a squeezed slice of a buffer reads. -/
theorem read_sliced {s s' : Shape} {e : EltTy} (b : Memref sig .tc .vmem s e) (r : Rect s) (hr : ∀ a, r.stride a = 1) (hs : r.shape.Squeezes s')
    (f : b.view.ty.Contents (Elt F)) :
    ((b.slice r hr).squeeze s' hs).view.read (Elt F) f = fun x => b.view.read (Elt F) f (r.emb (Shape.reshapeEquiv hs.numel_eq x)) := rfl

/-- What lands in a squeezed slice of a buffer from the same slice of another. -/
theorem landed_sliced {s s' : Shape} {e : EltTy} (b b' : Memref sig .tc .vmem s e) (r : Rect s) (hr : ∀ a, r.stride a = 1) (hs : r.shape.Squeezes s') (c : Dev nD)
    (fd f : b.view.ty.Contents (Elt F)) (f' : b'.view.ty.Contents (Elt F)) (h : b'.view.read (Elt F) f' = b.view.read (Elt F) f) :
    (vPts ((b.slice r hr).squeeze s' hs) c (((b.slice r hr).squeeze s' hs).view.write (Elt F) fd (((b'.slice r hr).squeeze s' hs).view.read (Elt F) f') Finset.univ) : sProp 𝕄)
      = vPts ((b.slice r hr).squeeze s' hs) c f := by
  refine vPts_of_read _ _ _ _ ?_
  rw [View.read_write_univ, read_sliced, read_sliced, h]

/-- What scratch3 reads at given contents is what scratch2 does. -/
theorem read_recv1 (f : Cont F) : mSend1.view.read (Elt F) f = mRecv1.view.read (Elt F) f :=
  (View.read_whole (Val := Elt F) (b := cc0_scratch2) f).trans (View.read_whole (Val := Elt F) (b := cc0_scratch3) f).symm

/-- What lands in the partner's window of scratch3 is at the sender's contents of scratch2. -/
theorem landed_lo (f fd : Cont F) (c : Dev nD) :
    (vPts (lo mRecv1) c ((lo mRecv1).view.write (Elt F) fd ((lo mSend1).view.read (Elt F) f) Finset.univ) : sProp 𝕄) = vPts (lo mRecv1) c f :=
  landed_sliced mRecv1 mSend1 rLo (fun _ => rfl) squeezes_S1x320x1024_S320x1024 c fd f f (read_recv1 f)
/-- So for the third quarter, -/
theorem landed_mid (f fd : Cont F) (c : Dev nD) :
    (vPts (mid mRecv1) c ((mid mRecv1).view.write (Elt F) fd ((mid mSend1).view.read (Elt F) f) Finset.univ) : sProp 𝕄) = vPts (mid mRecv1) c f :=
  landed_sliced mRecv1 mSend1 rMid (fun _ => rfl) squeezes_S1x160x1024_S160x1024 c fd f f (read_recv1 f)
/-- and for the last. -/
theorem landed_hi (f fd : Cont F) (c : Dev nD) :
    (vPts (hi mRecv1) c ((hi mRecv1).view.write (Elt F) fd ((hi mSend1).view.read (Elt F) f) Finset.univ) : sProp 𝕄) = vPts (hi mRecv1) c f :=
  landed_sliced mRecv1 mSend1 rHi (fun _ => rfl) squeezes_S1x160x1024_S160x1024 c fd f f (read_recv1 f)

/-- After its two stores the send buffer holds the rows sent. -/
theorem sent_congr (I : Dev nD → In F) (c : Dev nD) (g0 : Cont F) :
    (pt c cc0_scratch0 ((View.whole cc0_scratch0).writes (Elt F) g0
      [⟨rUp, k0_pay4 (k0_pay3 (View.readAt (Elt F) (View.whole cc0_stg2_0) qB3.toLoadRect (I c).pq) (View.readAt (Elt F) (View.whole cc0_stg0_0) xB.toLoadRect (I c).x))⟩,
       ⟨rLo, k0_pay2 (View.readAt (Elt F) (View.whole cc0_stg2_0) qB2.toLoadRect (I c).pq) (View.readAt (Elt F) (View.whole cc0_stg0_0) xB.toLoadRect (I c).x)⟩]) : sProp 𝕄)
      = vPts mSend0 c (G0of I c) := by
  have h := View.read_writes_eq_canon (View.whole cc0_scratch0) g0 [⟨rUp, k0_pay4 (k0_pay3 (View.ld (I c).pq qB3) (View.ld (I c).x xB))⟩, ⟨rLo, k0_pay2 (View.ld (I c).pq qB2) (View.ld (I c).x xB)⟩] (fun y => cover0 y _ _)
  rw [View.read_whole] at h
  show (pt c cc0_scratch0 ((View.whole cc0_scratch0).writes (Elt F) g0 [⟨rUp, k0_pay4 (k0_pay3 (View.ld (I c).pq qB3) (View.ld (I c).x xB))⟩, ⟨rLo, k0_pay2 (View.ld (I c).pq qB2) (View.ld (I c).x xB)⟩]) : sProp 𝕄) = _
  rw [show (View.whole cc0_scratch0).writes (Elt F) g0 [⟨rUp, k0_pay4 (k0_pay3 (View.ld (I c).pq qB3) (View.ld (I c).x xB))⟩, ⟨rLo, k0_pay2 (View.ld (I c).pq qB2) (View.ld (I c).x xB)⟩] = G0of I c from h]
  show _ = ((View.whole cc0_scratch0).loc (c : Thread nD τ) ↦[(View.whole cc0_scratch0).set]{fullShare} G0of I c)
  rw [View.set_whole]

/-- The first copy lands whole. -/
theorem landed0 (f : Cont F) (c : Dev nD) (fd : Cont F) :
    (vPts mRecv0 (pr c) (mRecv0.view.write (Elt F) fd (mSend0.view.read (Elt F) f) Finset.univ) : sProp 𝕄) = vPts mRecv0 (pr c) f := by
  refine congrArg _ ?_
  show (View.whole cc0_scratch1).write (Elt F) fd ((View.whole cc0_scratch0).read (Elt F) f) Finset.univ = f
  rw [View.read_whole]
  exact View.write_whole_univ _ _ _

/-! What the body has stored into a window of scratch2 is the window at the rows served. -/
theorem pay9_loads (I : In F) (R : Cont F) :
    k0_pay9 (View.readAt (Elt F) mRecv0.view rLo.toLoadRect R) (View.readAt (Elt F) mW1.view u1B0.toLoadRect I.W1) (View.readAt (Elt F) mW2.view u2B0.toLoadRect I.W2)
      = pay9 I R := by
  have h1 : View.readAt (Elt F) mRecv0.view rLo.toLoadRect R = View.ld R rLo := rfl
  have h2 : View.readAt (Elt F) mW1.view u1B0.toLoadRect I.W1 = View.ld I.W1 u1B0 := rfl
  have h3 : View.readAt (Elt F) mW2.view u2B0.toLoadRect I.W2 = View.ld I.W2 u2B0 := rfl
  unfold pay9
  rw [h1, h2, h3]; rfl
/-- After its store the return buffer's lower half holds the rows served; -/
theorem stored_lo (I : Dev nD → In F) (c : Dev nD) (g2 : Cont F) :
    (vPts (lo mSend1) c ((mSend1.access rLo).write (Elt F) g2
      (k0_pay9 (View.readAt (Elt F) mRecv0.view rLo.toLoadRect (sent (I (pr c)))) (View.readAt (Elt F) mW1.view u1B0.toLoadRect (I c).W1)
        (View.readAt (Elt F) mW2.view u2B0.toLoadRect (I c).W2)) Finset.univ) : sProp 𝕄) = vPts (lo mSend1) c (G2of I c) := by
  rw [pay9_loads]
  exact lo_stored c g2 (G2of I c) (pay9 (I c) (sent (I (pr c)))) (served_lo (I c) (sent (I (pr c))))

/-- The body's term for the third quarter is the rows served there; -/
theorem pay10_loads (I : In F) (R : Cont F) :
    k0_pay10 (View.readAt (Elt F) mRecv0.view rMid.toLoadRect R) (View.readAt (Elt F) mW1.view u1B1.toLoadRect I.W1) (View.readAt (Elt F) mW2.view u2B1.toLoadRect I.W2)
      = pay10 I R := by
  have h1 : View.readAt (Elt F) mRecv0.view rMid.toLoadRect R = View.ld R rMid := rfl
  have h2 : View.readAt (Elt F) mW1.view u1B1.toLoadRect I.W1 = View.ld I.W1 u1B1 := rfl
  have h3 : View.readAt (Elt F) mW2.view u2B1.toLoadRect I.W2 = View.ld I.W2 u2B1 := rfl
  unfold pay10
  rw [h1, h2, h3]; rfl
/-- after its store the third quarter holds them. -/
theorem stored_mid (I : Dev nD → In F) (c : Dev nD) (g2 : Cont F) :
    (vPts (mid mSend1) c ((mSend1.access rMid).write (Elt F) g2
      (k0_pay10 (View.readAt (Elt F) mRecv0.view rMid.toLoadRect (sent (I (pr c)))) (View.readAt (Elt F) mW1.view u1B1.toLoadRect (I c).W1)
        (View.readAt (Elt F) mW2.view u2B1.toLoadRect (I c).W2)) Finset.univ) : sProp 𝕄) = vPts (mid mSend1) c (G2of I c) := by
  rw [pay10_loads]
  exact mid_stored c g2 (G2of I c) (pay10 (I c) (sent (I (pr c)))) (served_mid (I c) (sent (I (pr c))))

/-- The body's term for the last quarter is the rows served there; -/
theorem pay11_loads (I : In F) (R : Cont F) :
    k0_pay11 (View.readAt (Elt F) mRecv0.view rHi.toLoadRect R) (View.readAt (Elt F) mW1.view u1B1.toLoadRect I.W1) (View.readAt (Elt F) mW2.view u2B1.toLoadRect I.W2)
      = pay11 I R := by
  have h1 : View.readAt (Elt F) mRecv0.view rHi.toLoadRect R = View.ld R rHi := rfl
  have h2 : View.readAt (Elt F) mW1.view u1B1.toLoadRect I.W1 = View.ld I.W1 u1B1 := rfl
  have h3 : View.readAt (Elt F) mW2.view u2B1.toLoadRect I.W2 = View.ld I.W2 u2B1 := rfl
  unfold pay11
  rw [h1, h2, h3]; rfl
/-- after its store the last quarter holds them. -/
theorem stored_hi (I : Dev nD → In F) (c : Dev nD) (g2 : Cont F) :
    (vPts (hi mSend1) c ((mSend1.access rHi).write (Elt F) g2
      (k0_pay11 (View.readAt (Elt F) mRecv0.view rHi.toLoadRect (sent (I (pr c)))) (View.readAt (Elt F) mW1.view u1B1.toLoadRect (I c).W1)
        (View.readAt (Elt F) mW2.view u2B1.toLoadRect (I c).W2)) Finset.univ) : sProp 𝕄) = vPts (hi mSend1) c (G2of I c) := by
  rw [pay11_loads]
  exact hi_stored c g2 (G2of I c) (pay11 (I c) (sent (I (pr c)))) (served_hi (I c) (sent (I (pr c))))

/-! ## A buffer and its windows -/

/-- A buffer held whole, as its whole view. -/
theorem pt_whole (b : Ref sig .tc) (c : Dev nD) (f : b.ty.Contents (Elt F)) :
    (pt c b f : sProp 𝕄) = (View.whole b).loc (c : Thread nD τ) ↦[(View.whole b).set]{fullShare} f := by
  rw [View.set_whole]

/-- A points-to over everything, cut along a partition. -/
theorem cut2 {ℓ : Loc nD τ sig} (I J : Finset (Idx ℓ)) (hd : Disjoint I J) (hu : I ∪ J = Finset.univ) (f : Buf (Elt F) ℓ) :
    (ℓ ↦{fullShare} f : sProp 𝕄) ⊣⊢ iprop((ℓ ↦[I]{fullShare} f) ∗ ℓ ↦[J]{fullShare} f) := by
  rw [← hu]
  exact pointsTo_union hd

/-- The same, cut in three. -/
theorem cut3 {ℓ : Loc nD τ sig} (I J K : Finset (Idx ℓ)) (hd : Disjoint I (J ∪ K)) (hd' : Disjoint J K) (hu : I ∪ (J ∪ K) = Finset.univ) (f : Buf (Elt F) ℓ) :
    (ℓ ↦{fullShare} f : sProp 𝕄) ⊣⊢ iprop((ℓ ↦[I]{fullShare} f) ∗ (ℓ ↦[J]{fullShare} f) ∗ ℓ ↦[K]{fullShare} f) :=
  ⟨(cut2 I (J ∪ K) hd hu f).mp.trans (BI.sep_mono (Entails.refl _) (pointsTo_union hd').mp),
    (BI.sep_mono (Entails.refl _) (pointsTo_union hd').mpr).trans (cut2 I (J ∪ K) hd hu f).mpr⟩

/-- The third and last quarters are disjoint, -/
theorem mid_hi_disjoint : Disjoint rMid.set rHi.set := by
  rw [Finset.disjoint_left]
  intro y hm hh
  rw [Rect.mem_set_unit] at hm hh
  have h1 : (y 1).val < 0 + 160 := (hm 1).2
  have h2 : 160 ≤ (y 1).val := (hh 1).1
  omega
/-- the lower half is disjoint from both, -/
theorem lo_up_disjoint : Disjoint rLo.set (rMid.set ∪ rHi.set) := by
  rw [Finset.disjoint_left]
  intro y hl hu
  rw [Rect.mem_set_unit] at hl
  have h1 : (y 0).val < 0 + 1 := (hl 0).2
  rcases Finset.mem_union.mp hu with h | h <;> rw [Rect.mem_set_unit] at h
  · have h2 : 1 ≤ (y 0).val := (h 0).1
    omega
  · have h2 : 1 ≤ (y 0).val := (h 0).1
    omega
/-- and the three are the whole buffer. -/
theorem lo_mid_hi_cover : rLo.set ∪ (rMid.set ∪ rHi.set) = (Finset.univ : Finset S2x320x1024.Idx) := by
  refine Finset.eq_univ_iff_forall.mpr fun y => ?_
  have h0 : (y 0).val < 2 := (y 0).isLt
  have h1 : (y 1).val < 320 := (y 1).isLt
  have h2 : (y 2).val < 1024 := (y 2).isLt
  rw [Finset.mem_union, Finset.mem_union, Rect.mem_set_unit, Rect.mem_set_unit, Rect.mem_set_unit]
  by_cases ha : (y 0).val = 0
  · left; intro a; fin_cases a
    · exact ⟨Nat.zero_le _, by show (y 0).val < 0 + 1; omega⟩
    · exact ⟨Nat.zero_le _, by show (y 1).val < 0 + 320; omega⟩
    · exact ⟨Nat.zero_le _, by show (y 2).val < 0 + 1024; omega⟩
  · by_cases hb : (y 1).val < 160
    · right; left; intro a; fin_cases a
      · exact ⟨by show 1 ≤ (y 0).val; omega, by show (y 0).val < 1 + 1; omega⟩
      · exact ⟨Nat.zero_le _, by show (y 1).val < 0 + 160; omega⟩
      · exact ⟨Nat.zero_le _, by show (y 2).val < 0 + 1024; omega⟩
    · right; right; intro a; fin_cases a
      · exact ⟨by show 1 ≤ (y 0).val; omega, by show (y 0).val < 1 + 1; omega⟩
      · exact ⟨by show 160 ≤ (y 1).val; omega, by show (y 1).val < 160 + 160; omega⟩
      · exact ⟨Nat.zero_le _, by show (y 2).val < 0 + 1024; omega⟩

/-- A window's cells are its rectangle's. -/
theorem set_lo (b : Ref sig .tc) (r : Rect b.ty.shape) (s' : Shape) (h : s'.numel = r.shape.numel) :
    (((View.whole b).slice r).reshape s' h).set = r.set := by
  rw [View.set_reshape, View.set_slice_whole]

/-- A results' buffer is its three windows. -/
theorem send1_windows (c : Dev nD) (f : Cont F) :
    (pt c cc0_scratch2 f : sProp 𝕄) ⊣⊢ iprop(vPts (lo mSend1) c f ∗ vPts (mid mSend1) c f ∗ vPts (hi mSend1) c f) := by
  have h := cut3 (F := F) (ℓ := (View.whole cc0_scratch2).loc (c : Thread nD τ)) rLo.set rMid.set rHi.set lo_up_disjoint mid_hi_disjoint lo_mid_hi_cover f
  rw [← set_lo cc0_scratch2 rLo S320x1024 squeezes_S1x320x1024_S320x1024.numel_eq,
    ← set_lo cc0_scratch2 rMid S160x1024 squeezes_S1x160x1024_S160x1024.numel_eq,
    ← set_lo cc0_scratch2 rHi S160x1024 squeezes_S1x160x1024_S160x1024.numel_eq] at h
  exact h
/-- The same of the buffer that the returned rows land in. -/
theorem recv1_windows (c : Dev nD) (f : Cont F) :
    (pt c cc0_scratch3 f : sProp 𝕄) ⊣⊢ iprop(vPts (lo mRecv1) c f ∗ vPts (mid mRecv1) c f ∗ vPts (hi mRecv1) c f) := by
  have h := cut3 (F := F) (ℓ := (View.whole cc0_scratch3).loc (c : Thread nD τ)) rLo.set rMid.set rHi.set lo_up_disjoint mid_hi_disjoint lo_mid_hi_cover f
  rw [← set_lo cc0_scratch3 rLo S320x1024 squeezes_S1x320x1024_S320x1024.numel_eq,
    ← set_lo cc0_scratch3 rMid S160x1024 squeezes_S1x160x1024_S160x1024.numel_eq,
    ← set_lo cc0_scratch3 rHi S160x1024 squeezes_S1x160x1024_S160x1024.numel_eq] at h
  exact h

/-- The two experts' first matrices are disjoint, -/
theorem u1_disjoint : Disjoint u1B0.set u1B1.set := by
  rw [Finset.disjoint_left]
  intro y hl hu
  rw [Rect.mem_set_unit] at hl hu
  have h1 : (y 0).val < 0 + 1 := (hl 0).2
  have h2 : 1 ≤ (y 0).val := (hu 0).1
  omega
/-- and so are the second ones; -/
theorem u2_disjoint : Disjoint u2B0.set u2B1.set := by
  rw [Finset.disjoint_left]
  intro y hl hu
  rw [Rect.mem_set_unit] at hl hu
  have h1 : (y 0).val < 0 + 1 := (hl 0).2
  have h2 : 1 ≤ (y 0).val := (hu 0).1
  omega
/-- the two first ones are the whole, -/
theorem u1_cover : u1B0.set ∪ u1B1.set = (Finset.univ : Finset S2x1024x2048.Idx) := by
  refine Finset.eq_univ_iff_forall.mpr fun y => ?_
  have h0 : (y 0).val < 2 := (y 0).isLt
  have h1 : (y 1).val < 1024 := (y 1).isLt
  have h2 : (y 2).val < 2048 := (y 2).isLt
  rw [Finset.mem_union, Rect.mem_set_unit, Rect.mem_set_unit]
  by_cases ha : (y 0).val = 0
  · left; intro a; fin_cases a
    · exact ⟨Nat.zero_le _, by show (y 0).val < 0 + 1; omega⟩
    · exact ⟨Nat.zero_le _, by show (y 1).val < 0 + 1024; omega⟩
    · exact ⟨Nat.zero_le _, by show (y 2).val < 0 + 2048; omega⟩
  · right; intro a; fin_cases a
    · exact ⟨by show 1 ≤ (y 0).val; omega, by show (y 0).val < 1 + 1; omega⟩
    · exact ⟨Nat.zero_le _, by show (y 1).val < 0 + 1024; omega⟩
    · exact ⟨Nat.zero_le _, by show (y 2).val < 0 + 2048; omega⟩
/-- and so are the second ones. -/
theorem u2_cover : u2B0.set ∪ u2B1.set = (Finset.univ : Finset S2x2048x1024.Idx) := by
  refine Finset.eq_univ_iff_forall.mpr fun y => ?_
  have h0 : (y 0).val < 2 := (y 0).isLt
  have h1 : (y 1).val < 2048 := (y 1).isLt
  have h2 : (y 2).val < 1024 := (y 2).isLt
  rw [Finset.mem_union, Rect.mem_set_unit, Rect.mem_set_unit]
  by_cases ha : (y 0).val = 0
  · left; intro a; fin_cases a
    · exact ⟨Nat.zero_le _, by show (y 0).val < 0 + 1; omega⟩
    · exact ⟨Nat.zero_le _, by show (y 1).val < 0 + 2048; omega⟩
    · exact ⟨Nat.zero_le _, by show (y 2).val < 0 + 1024; omega⟩
  · right; intro a; fin_cases a
    · exact ⟨by show 1 ≤ (y 0).val; omega, by show (y 0).val < 1 + 1; omega⟩
    · exact ⟨Nat.zero_le _, by show (y 1).val < 0 + 2048; omega⟩
    · exact ⟨Nat.zero_le _, by show (y 2).val < 0 + 1024; omega⟩

/-- A weights' buffer is its two windows, one per expert. -/
theorem W1_windows (c : Dev nD) (f : (cc0_scratch4 : Ref sig .tc).ty.Contents (Elt F)) :
    (pt c cc0_scratch4 f : sProp 𝕄) ⊣⊢ iprop(vPts (w1a mW1) c f ∗ vPts (w1b mW1) c f) := by
  have h := cut2 (F := F) (ℓ := (View.whole cc0_scratch4).loc (c : Thread nD τ)) u1B0.set u1B1.set u1_disjoint u1_cover f
  rw [← set_lo cc0_scratch4 u1B0 S1024x2048 squeezes_S1x1024x2048_S1024x2048.numel_eq,
    ← set_lo cc0_scratch4 u1B1 S1024x2048 squeezes_S1x1024x2048_S1024x2048.numel_eq] at h
  exact h
/-- The same of the second matrices' copy. -/
theorem W2_windows (c : Dev nD) (f : (cc0_scratch5 : Ref sig .tc).ty.Contents (Elt F)) :
    (pt c cc0_scratch5 f : sProp 𝕄) ⊣⊢ iprop(vPts (w2a mW2) c f ∗ vPts (w2b mW2) c f) := by
  have h := cut2 (F := F) (ℓ := (View.whole cc0_scratch5).loc (c : Thread nD τ)) u2B0.set u2B1.set u2_disjoint u2_cover f
  rw [← set_lo cc0_scratch5 u2B0 S2048x1024 squeezes_S1x2048x1024_S2048x1024.numel_eq,
    ← set_lo cc0_scratch5 u2B1 S2048x1024 squeezes_S1x2048x1024_S2048x1024.numel_eq] at h
  exact h

/-! ## The output window -/

/-- The own experts' share, as the body loads and computes it. -/
abbrev ownLoads (I : In F) : S1024x1024.Idx → Elt F .f32 :=
  k0_pay12
    (k0_pay6 (k0_pay5 (View.readAt (Elt F) (View.whole cc0_stg2_0) qB0.toLoadRect I.pq) (View.readAt (Elt F) (View.whole cc0_stg0_0) xB.toLoadRect I.x))
      (View.readAt (Elt F) (View.whole cc0_scratch4) u1B0.toLoadRect I.W1) (View.readAt (Elt F) (View.whole cc0_scratch5) u2B0.toLoadRect I.W2))
    (k0_pay8 (k0_pay7 (View.readAt (Elt F) (View.whole cc0_stg2_0) qB1.toLoadRect I.pq) (View.readAt (Elt F) (View.whole cc0_stg0_0) xB.toLoadRect I.x))
      (View.readAt (Elt F) (View.whole cc0_scratch4) u1B1.toLoadRect I.W1) (View.readAt (Elt F) (View.whole cc0_scratch5) u2B1.toLoadRect I.W2))
    (View.readAt (Elt F) (View.whole cc0_stg1_0) cB0.toLoadRect I.pc) (View.readAt (Elt F) (View.whole cc0_stg1_0) cB1.toLoadRect I.pc)
/-- That is the own experts' share. -/
theorem ownLoads_eq (I : In F) : ownLoads I = ownPart I := by
  have h1 : View.readAt (Elt F) (View.whole cc0_stg2_0) qB0.toLoadRect I.pq = View.ld I.pq qB0 := rfl
  have h2 : View.readAt (Elt F) (View.whole cc0_stg2_0) qB1.toLoadRect I.pq = View.ld I.pq qB1 := rfl
  have h3 : View.readAt (Elt F) (View.whole cc0_stg0_0) xB.toLoadRect I.x = View.ld I.x xB := rfl
  have h4 : View.readAt (Elt F) (View.whole cc0_scratch4) u1B0.toLoadRect I.W1 = View.ld I.W1 u1B0 := rfl
  have h5 : View.readAt (Elt F) (View.whole cc0_scratch5) u2B0.toLoadRect I.W2 = View.ld I.W2 u2B0 := rfl
  have h6 : View.readAt (Elt F) (View.whole cc0_scratch4) u1B1.toLoadRect I.W1 = View.ld I.W1 u1B1 := rfl
  have h7 : View.readAt (Elt F) (View.whole cc0_scratch5) u2B1.toLoadRect I.W2 = View.ld I.W2 u2B1 := rfl
  have h8 : View.readAt (Elt F) (View.whole cc0_stg1_0) cB0.toLoadRect I.pc = View.ld I.pc cB0 := rfl
  have h9 : View.readAt (Elt F) (View.whole cc0_stg1_0) cB1.toLoadRect I.pc = View.ld I.pc cB1 := rfl
  unfold ownPart ownLoads
  rw [h1, h2, h3, h4, h5, h6, h7, h8, h9]

/-- The last store into the output window, as the body loads and computes it. -/
abbrev outLoads (I : In F) (S : Cont F) : S1024x1024.Idx → Elt F .f32 :=
  k0_pay1
    (k0_pay13 (View.readAt (Elt F) (View.whole cc0_stg1_0) cB2.toLoadRect I.pc) (View.readAt (Elt F) (View.whole cc0_scratch3) rLo.toLoadRect S))
    (k0_pay14 (View.readAt (Elt F) (View.whole cc0_stg1_0) cB3.toLoadRect I.pc))
    (k0_pay15 (k0_pay14 (View.readAt (Elt F) (View.whole cc0_stg1_0) cB3.toLoadRect I.pc)) (View.readAt (Elt F) (View.whole cc0_scratch3) rMid.toLoadRect S))
    ((View.whole cc0_stg3_0).readCov [⟨xB, ownLoads I⟩] xB.toLoadRect)
    (View.readAt (Elt F) (View.whole cc0_scratch3) rHi.toLoadRect S)
/-- That is the output block. -/
theorem outLoads_eq (I : In F) (S : Cont F) : outLoads I S = outBlock I S := by
  have h1 : View.readAt (Elt F) (View.whole cc0_stg1_0) cB2.toLoadRect I.pc = View.ld I.pc cB2 := rfl
  have h2 : View.readAt (Elt F) (View.whole cc0_stg1_0) cB3.toLoadRect I.pc = View.ld I.pc cB3 := rfl
  have h3 : View.readAt (Elt F) (View.whole cc0_scratch3) rLo.toLoadRect S = View.ld S rLo := rfl
  have h4 : View.readAt (Elt F) (View.whole cc0_scratch3) rMid.toLoadRect S = View.ld S rMid := rfl
  have h5 : View.readAt (Elt F) (View.whole cc0_scratch3) rHi.toLoadRect S = View.ld S rHi := rfl
  have h6 : (View.whole cc0_stg3_0).readCov [⟨xB, ownLoads I⟩] xB.toLoadRect = ownLoads I :=
    View.readCov_cons_toLoadRect (View.whole cc0_stg3_0) xB (ownLoads I) []
  unfold outBlock outLoads
  rw [h6, ownLoads_eq, h1, h2, h3, h4, h5]; rfl

/-- The output window after the body's stores, the last of which covers it. -/
theorem out_stored (p : S1024x1024.Idx → Elt F .f32) (o : (cc0_stg3_0 : Ref sig .tc).ty.Contents (Elt F)) (L : List (View.Piece (Elt F) S1024x1024 .f32)) :
    (View.whole cc0_stg3_0).writes (Elt F) o (⟨xB, p⟩ :: L) = p := by
  funext x
  have hx : xB.emb x = x := by
    funext a
    refine Fin.ext ?_
    show (![0, 0] : Fin 2 → Nat) a + 1 * (x a).val = (x a).val
    fin_cases a <;> simp
  have h := View.read_writes_cons_emb (View.whole cc0_stg3_0) o xB p L x
  rw [hx, View.read_whole] at h
  exact h

end Cert.KernelIdeal.Moe
-- ==== Proof.Body.lean ====
/-
  The body of the kernel, run at a symbolic device: the barrier, the copies out and back, the products between them, and
  what every buffer holds at the end.
-/
module

public import proofs.«01_k».proof.Proof.Windows

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (G0 G2 : Dev nD → Cont F)

/-- The body has no loop variants to state. -/
abbrev 𝒱₀ : Variants := Variants.none

/-- What the barrier hands over, written out. -/
theorem payload_bar' (c : Dev nD) (u : Unit) : (rd (F := F) G0 G2).payload (barCell c) 0 u = iprop((∃ f, vPts mRecv0 (pr c) f) ∗ (∃ f, vPts (lo mRecv1) (pr c) f) ∗ (∃ f, vPts (mid mRecv1) (pr c) f) ∗ (∃ f, vPts (hi mRecv1) (pr c) f)
    ∗ reached ER (recv0 (pr c)) 0 ∗ reached ER (recv1 (pr c)) 0 ∗ reached ER (recv2 (pr c)) 0 ∗ reached ER (recv3 (pr c)) 0) := payload_bar G0 G2 c u
/-- What the partner's barrier hands over: this device's receive windows, to be written. -/
theorem payload_barP (c : Dev nD) (u : Unit) : (rd (F := F) G0 G2).payload (barCell (pr c)) 0 u = iprop((∃ f, vPts mRecv0 c f) ∗ (∃ f, vPts (lo mRecv1) c f) ∗ (∃ f, vPts (mid mRecv1) c f) ∗ (∃ f, vPts (hi mRecv1) c f)
    ∗ reached ER (recv0 c) 0 ∗ reached ER (recv1 c) 0 ∗ reached ER (recv2 c) 0 ∗ reached ER (recv3 c) 0) := by
  rw [payload_bar]; unfold barPay; rw [pr_pr]
/-- What the send semaphore of copy 0 hands over, written out. -/
theorem payload_send0' (c : Dev nD) (u : Unit) : (rd (F := F) G0 G2).payload (send0 c) 0 u = vPts mSend0 c (G0 c) := payload_send0 G0 G2 c u
/-- What the send semaphore of copy 1 hands over, written out. -/
theorem payload_send1' (c : Dev nD) (u : Unit) : (rd (F := F) G0 G2).payload (send1 c) 0 u = vPts (lo mSend1) c (G2 c) := payload_send1 G0 G2 c u
/-- What the send semaphore of copy 2 hands over, written out. -/
theorem payload_send2' (c : Dev nD) (u : Unit) : (rd (F := F) G0 G2).payload (send2 c) 0 u = vPts (mid mSend1) c (G2 c) := payload_send2 G0 G2 c u
/-- What the send semaphore of copy 3 hands over, written out. -/
theorem payload_send3' (c : Dev nD) (u : Unit) : (rd (F := F) G0 G2).payload (send3 c) 0 u = vPts (hi mSend1) c (G2 c) := payload_send3 G0 G2 c u
/-- What the receive semaphore of copy 0 hands over, written out. -/
theorem payload_recv0' (c : Dev nD) (u : Unit) : (rd (F := F) G0 G2).payload (recv0 c) 0 u = vPts mRecv0 c (G0 (pr c)) := payload_recv0 G0 G2 c u
/-- What the receive semaphore of copy 1 hands over, written out. -/
theorem payload_recv1' (c : Dev nD) (u : Unit) : (rd (F := F) G0 G2).payload (recv1 c) 0 u = vPts (lo mRecv1) c (G2 (pr c)) := payload_recv1 G0 G2 c u
/-- What the receive semaphore of copy 2 hands over, written out. -/
theorem payload_recv2' (c : Dev nD) (u : Unit) : (rd (F := F) G0 G2).payload (recv2 c) 0 u = vPts (mid mRecv1) c (G2 (pr c)) := payload_recv2 G0 G2 c u
/-- What the receive semaphore of copy 3 hands over, written out. -/
theorem payload_recv3' (c : Dev nD) (u : Unit) : (rd (F := F) G0 G2).payload (recv3 c) 0 u = vPts (hi mRecv1) c (G2 (pr c)) := payload_recv3 G0 G2 c u

attribute [local irreducible] k0_dev1 k0_dev2 k0_dev3 k0_dev4 k0_dev5 pr
attribute [local sl_rounds]  duties_bar duties_send0 duties_send1 duties_send2 duties_send3 duties_recv0 duties_recv1 duties_recv2 duties_recv3
  amount_bar amount_send0 amount_send1 amount_send2 amount_send3 amount_recv0 amount_recv1 amount_recv2 amount_recv3
  expect_bar expect_send0 expect_send1 expect_send2 expect_send3 expect_recv0 expect_recv1 expect_recv2 expect_recv3
  payload_bar' payload_send0' payload_send1' payload_send2' payload_send3' payload_recv0' payload_recv1' payload_recv2' payload_recv3'

/-- A remote copy to a device `d` that is the partner: with the source and the partner's window in hand, and the two duties, the credit of the own
    send cell comes back. -/
theorem wp_sendTo (G0 G2 : Dev nD → Cont F) (c d : Dev nD) (hd : d = pr c) {s : Shape} {src dst : Memref sig .tc .vmem s .bf16} {sS sem : DmaSem sig}
    {hsc : dst.view.ref.isScScratch = false} {hsrc : src.view.WordExact} {hdst : dst.view.WordExact}
    {hsem : DmaTarget.Typed .vmem (.dma sem) (.remote (d : Thread nD τ) dst (.dma sS) hsc)} {k : PUnit → Prog (TpuEff nD τ sig (Elt F) Λ₀ .tc) PUnit} {Q : PUnit → sProp 𝕄}
    (fs : Buf (Elt F) (src.view.loc (c : Thread nD τ))) (fd : Buf (Elt F) (dst.view.loc ((pr c : Dev nD) : Thread nD τ))) {κ₁ κ₂ : ℕ}
    (hd₁ : (rd G0 G2).duties ((c : Thread nD τ), .dma sS) 0 = {()}) (hd₂ : (rd G0 G2).duties (((pr c : Dev nD) : Thread nD τ), .dma sem) 0 = {()})
    (N : ℕ) (hN : dst.view.amount (.dma sem) = N)
    (hk₁ : (rd G0 G2).amount ((c : Thread nD τ), .dma sS) 0 () = N) (hk₂ : (rd G0 G2).amount (((pr c : Dev nD) : Thread nD τ), .dma sem) 0 () = N)
    (O : CellTallies nD τ sig Unit) {W : Waits sig Unit}
    (hpay₁ : (rd G0 G2).payload ((c : Thread nD τ), .dma sS) 0 () = vPts src c fs)
    (hpay₂ : (rd G0 G2).payload (((pr c : Dev nD) : Thread nD τ), .dma sem) 0 () = vPts dst (pr c) (dst.view.write (Elt F) fd (src.view.read (Elt F) fs) Finset.univ)) :
    iprop(cellInv ER (rd G0 G2) κ₁ ((c : Thread nD τ), .dma sS) ∗ cellInv ER (rd G0 G2) κ₂ (((pr c : Dev nD) : Thread nD τ), .dma sem)
        ∗ vPts src c fs ∗ vPts dst (pr c) fd
        ∗ owes (c : Thread nD τ) (O + tallyAt (((pr c : Dev nD) : Thread nD τ), .dma sem) () N) W
        ∗ dutyTok ER ((c : Thread nD τ), .dma sS) 0 () ∗ reached ER ((c : Thread nD τ), .dma sS) 0
        ∗ dutyTok ER (((pr c : Dev nD) : Thread nD τ), .dma sem) 0 () ∗ reached ER (((pr c : Dev nD) : Thread nD τ), .dma sem) 0)
      ⊢ iprop(((cred (tallyAt ((c : Thread nD τ), .dma sS) () N) ∗ owes (c : Thread nD τ) O W) -∗ wp frame (wpE (defs₀ (F := F)) 𝒱₀ c none) Set.univ (k ⟨⟩) Q)
          -∗ wp frame (wpE (defs₀ (F := F)) 𝒱₀ c none) Set.univ (.op (.enqueueDma src (.remote (d : Thread nD τ) dst (.dma sS) hsc) (.dma sem) hsrc hdst hsem) k) Q) := by
  subst hd
  exact Rounds.wp_send_pointsTo 𝒱₀ ER (rd G0 G2) (c : Thread nD τ) none (by rw [hd₁]; exact Finset.mem_singleton_self _) (by rw [hd₂]; exact Finset.mem_singleton_self _)
    () () N hN hk₁ hk₂ O rfl (Entails.of_eq hpay₁.symm) (Entails.of_eq hpay₂.symm)

/-- The invariants of the cells device `c` touches: its nine, and its partner's barrier and receive cells. -/
def invs (I : Dev nD → In F) (K : GSem nD τ sig → ℕ) (c : Dev nD) : sProp 𝕄 :=
  iprop(cellInv ER (rd (G0of I) (G2of I)) (K (barCell c)) (barCell c)
      ∗ cellInv ER (rd (G0of I) (G2of I)) (K (send0 c)) (send0 c) ∗ cellInv ER (rd (G0of I) (G2of I)) (K (send1 c)) (send1 c)
      ∗ cellInv ER (rd (G0of I) (G2of I)) (K (send2 c)) (send2 c) ∗ cellInv ER (rd (G0of I) (G2of I)) (K (send3 c)) (send3 c)
      ∗ cellInv ER (rd (G0of I) (G2of I)) (K (recv0 c)) (recv0 c) ∗ cellInv ER (rd (G0of I) (G2of I)) (K (recv1 c)) (recv1 c)
      ∗ cellInv ER (rd (G0of I) (G2of I)) (K (recv2 c)) (recv2 c) ∗ cellInv ER (rd (G0of I) (G2of I)) (K (recv3 c)) (recv3 c)
      ∗ cellInv ER (rd (G0of I) (G2of I)) (K (barCell (pr c))) (barCell (pr c))
      ∗ cellInv ER (rd (G0of I) (G2of I)) (K (recv0 (pr c))) (recv0 (pr c)) ∗ cellInv ER (rd (G0of I) (G2of I)) (K (recv1 (pr c))) (recv1 (pr c))
      ∗ cellInv ER (rd (G0of I) (G2of I)) (K (recv2 (pr c))) (recv2 (pr c)) ∗ cellInv ER (rd (G0of I) (G2of I)) (K (recv3 (pr c))) (recv3 (pr c)))
/-- The invariants may be kept and used again. -/
instance (I : Dev nD → In F) (K : GSem nD τ sig → ℕ) (c : Dev nD) : BI.Persistent (invs I K c) := by
  unfold invs
  set_option synthInstance.maxHeartbeats 400000 in infer_instance

/-- The nine cells of device `c` at the start of their only round. -/
def starts (c : Dev nD) : sProp 𝕄 :=
  iprop(atPos ER (barCell c) 0 ∅ 0 ∗ atPos ER (send0 c) 0 ∅ 0 ∗ atPos ER (send1 c) 0 ∅ 0 ∗ atPos ER (send2 c) 0 ∅ 0 ∗ atPos ER (send3 c) 0 ∅ 0
        ∗ atPos ER (recv0 c) 0 ∅ 0 ∗ atPos ER (recv1 c) 0 ∅ 0 ∗ atPos ER (recv2 c) 0 ∅ 0 ∗ atPos ER (recv3 c) 0 ∅ 0)
/-- The partner's barrier and the own transfer cells have reached round 0. -/
def opens (c : Dev nD) : sProp 𝕄 :=
  iprop(reached ER (barCell (pr c)) 0 ∗ reached ER (send0 c) 0 ∗ reached ER (send1 c) 0 ∗ reached ER (send2 c) 0 ∗ reached ER (send3 c) 0
        ∗ reached ER (recv0 c) 0 ∗ reached ER (recv1 c) 0 ∗ reached ER (recv2 c) 0 ∗ reached ER (recv3 c) 0)
/-- The duties device `c` discharges. -/
def dutiesOf (c : Dev nD) : sProp 𝕄 :=
  iprop(dutyTok ER (barCell (pr c)) 0 () ∗ dutyTok ER (recv0 (pr c)) 0 () ∗ dutyTok ER (recv1 (pr c)) 0 () ∗ dutyTok ER (recv2 (pr c)) 0 () ∗ dutyTok ER (recv3 (pr c)) 0 ()
        ∗ dutyTok ER (send0 c) 0 () ∗ dutyTok ER (send1 c) 0 () ∗ dutyTok ER (send2 c) 0 () ∗ dutyTok ER (send3 c) 0 ())
/-- The credits device `c` starts with. -/
def credits (c : Dev nD) : sProp 𝕄 :=
  iprop(cred (tallyAt (barCell c) () 1) ∗ cred (tallyAt (recv0 c) () N0) ∗ cred (tallyAt (recv1 c) () N1) ∗ cred (tallyAt (recv2 c) () N2) ∗ cred (tallyAt (recv3 c) () N3))
/-- The local transfers' four semaphores at zero. -/
def localSems (c : Dev nD) : sProp 𝕄 :=
  iprop(semVal ((c : Thread nD τ), .dma (sem0 cc0_scratch6)) 0 ∗ semVal ((c : Thread nD τ), .dma (sem1 cc0_scratch6)) 0
    ∗ semVal ((c : Thread nD τ), .dma (sem2 cc0_scratch6)) 0 ∗ semVal ((c : Thread nD τ), .dma (sem3 cc0_scratch6)) 0)
/-- The eight transfer semaphores at zero. -/
def xferSems (c : Dev nD) : sProp 𝕄 :=
  iprop(semVal (send0 c) 0 ∗ semVal (send1 c) 0 ∗ semVal (send2 c) 0 ∗ semVal (send3 c) 0
    ∗ semVal (recv0 c) 0 ∗ semVal (recv1 c) 0 ∗ semVal (recv2 c) 0 ∗ semVal (recv3 c) 0)
/-- The six scratch buffers, at some contents. -/
def scratches (c : Dev nD) : sProp 𝕄 :=
  iprop((∃ f, pt c cc0_scratch0 f) ∗ (∃ f, pt c cc0_scratch1 f) ∗ (∃ f, pt c cc0_scratch2 f) ∗ (∃ f, pt c cc0_scratch3 f)
    ∗ (∃ f, pt c cc0_scratch4 f) ∗ (∃ f, pt c cc0_scratch5 f))
/-- The windows and the two arrays of weights at what the body reads, the output window at `o`. -/
def blocks (I : Dev nD → In F) (c : Dev nD) (o : (cc0_stg3_0 : Ref sig .tc).ty.Contents (Elt F)) : sProp 𝕄 :=
  iprop(pt c cc0_stg0_0 (I c).x ∗ pt c cc0_stg1_0 (I c).pc ∗ pt c cc0_stg2_0 (I c).pq ∗ pt c cc0_stg3_0 o
    ∗ pt c main_arg2 (I c).W1 ∗ pt c main_arg3 (I c).W2)

/-- A cell past its only round gives its semaphore back at zero. -/
theorem close_cell (I : Dev nD → In F) (κ : ℕ) (g : GSem nD τ sig) :
    iprop(cellInv ER (rd (G0of I) (G2of I)) κ g ∗ atPos ER g (0 + 1) ∅ 0) ⊢ (iprop(|={Set.univ}=> semVal g 0) : sProp 𝕄) :=
  Rounds.cell_close ER (rd (G0of I) (G2of I)) (Set.mem_univ κ) id (duties_later _ _ g)

/-- What is left after the body's last operation: the nine cells past their round, the windows landed, the inputs untouched. -/
theorem body_end (K : GSem nD τ sig → ℕ) (c : Dev nD) (W' : Waits sig Unit) (Kt : PUnit → sProp 𝕄) (I : Dev nD → In F) :
    iprop(invs I K c
      ∗ (atPos ER (barCell c) 1 ∅ 0 ∗ atPos ER (send0 c) 1 ∅ 0 ∗ atPos ER (send1 c) 1 ∅ 0 ∗ atPos ER (send2 c) 1 ∅ 0 ∗ atPos ER (send3 c) 1 ∅ 0
        ∗ atPos ER (recv0 c) 1 ∅ 0 ∗ atPos ER (recv1 c) 1 ∅ 0 ∗ atPos ER (recv2 c) 1 ∅ 0 ∗ atPos ER (recv3 c) 1 ∅ 0)
      ∗ localSems c ∗ blocks I c (outOf I c)
      ∗ (vPts mSend0 c (G0of I c) ∗ vPts mRecv0 c (G0of I (pr c))
        ∗ vPts (lo mSend1) c (G2of I c) ∗ vPts (mid mSend1) c (G2of I c) ∗ vPts (hi mSend1) c (G2of I c)
        ∗ vPts (lo mRecv1) c (G2of I (pr c)) ∗ vPts (mid mRecv1) c (G2of I (pr c)) ∗ vPts (hi mRecv1) c (G2of I (pr c)))
      ∗ (vPts (w1a mW1) c (I c).W1 ∗ vPts (w1b mW1) c (I c).W1 ∗ vPts (w2a mW2) c (I c).W2 ∗ vPts (w2b mW2) c (I c).W2)
      ∗ owes (c : Thread nD τ) 0 W'
      ∗ ((semVal (barCell c) 0 ∗ xferSems c ∗ localSems c ∗ blocks I c (outOf I c) ∗ scratches c ∗ ∃ W', owes (c : Thread nD τ) 0 W') -∗ Kt ⟨⟩))
      ⊢ (iprop(|={Set.univ}=> Kt ⟨⟩) : sProp 𝕄) := by
  unfold invs xferSems scratches
  iintro ⟨⟨#HIb, #HIs0, #HIs1, #HIs2, #HIs3, #HIv0, #HIv1, #HIv2, #HIv3, #HIbP, #HIvP0, #HIvP1, #HIvP2, #HIvP3⟩,
    ⟨HatB, HatS0, HatS1, HatS2, HatS3, HatV0, HatV1, HatV2, HatV3⟩, Hw, Hbl,
    ⟨HatS0_pay1, HatV0_pay1, HatS1_pay1, HatS2_pay1, HatS3_pay1, HatV1_pay1, HatV2_pay1, HatV3_pay1⟩, ⟨HW1a, HW1b, HW2a, HW2b⟩, HO, Hk⟩
  imod (close_cell I (K (barCell c)) (barCell c)) $$ [HatB] with HzB
  · isplitr; · iexact HIb
    iexact HatB
  imod (close_cell I (K (send0 c)) (send0 c)) $$ [HatS0] with HzS0
  · isplitr; · iexact HIs0
    iexact HatS0
  imod (close_cell I (K (send1 c)) (send1 c)) $$ [HatS1] with HzS1
  · isplitr; · iexact HIs1
    iexact HatS1
  imod (close_cell I (K (send2 c)) (send2 c)) $$ [HatS2] with HzS2
  · isplitr; · iexact HIs2
    iexact HatS2
  imod (close_cell I (K (send3 c)) (send3 c)) $$ [HatS3] with HzS3
  · isplitr; · iexact HIs3
    iexact HatS3
  imod (close_cell I (K (recv0 c)) (recv0 c)) $$ [HatV0] with HzV0
  · isplitr; · iexact HIv0
    iexact HatV0
  imod (close_cell I (K (recv1 c)) (recv1 c)) $$ [HatV1] with HzV1
  · isplitr; · iexact HIv1
    iexact HatV1
  imod (close_cell I (K (recv2 c)) (recv2 c)) $$ [HatV2] with HzV2
  · isplitr; · iexact HIv2
    iexact HatV2
  imod (close_cell I (K (recv3 c)) (recv3 c)) $$ [HatV3] with HzV3
  · isplitr; · iexact HIv3
    iexact HatV3
  imodintro
  iapply Hk
  isplitl [HzB]; · iexact HzB
  isplitl [HzS0 HzS1 HzS2 HzS3 HzV0 HzV1 HzV2 HzV3]
  · isplitl [HzS0]; · iexact HzS0
    isplitl [HzS1]; · iexact HzS1
    isplitl [HzS2]; · iexact HzS2
    isplitl [HzS3]; · iexact HzS3
    isplitl [HzV0]; · iexact HzV0
    isplitl [HzV1]; · iexact HzV1
    isplitl [HzV2]; · iexact HzV2
    iexact HzV3
  isplitl [Hw]; · iexact Hw
  isplitl [Hbl]; · iexact Hbl
  isplitr [HO]
  · isplitl [HatS0_pay1]; · iexists (G0of I c); iapply (Entails.of_eq (pt_whole cc0_scratch0 c (G0of I c)).symm); iexact HatS0_pay1
    isplitl [HatV0_pay1]; · iexists (G0of I (pr c)); iapply (Entails.of_eq (pt_whole cc0_scratch1 c (G0of I (pr c))).symm); iexact HatV0_pay1
    isplitl [HatS1_pay1 HatS2_pay1 HatS3_pay1]
    · iexists (G2of I c)
      iapply (send1_windows c (G2of I c)).mpr
      isplitl [HatS1_pay1]; · iexact HatS1_pay1
      isplitl [HatS2_pay1]; · iexact HatS2_pay1
      iexact HatS3_pay1
    isplitl [HatV1_pay1 HatV2_pay1 HatV3_pay1]
    · iexists (G2of I (pr c))
      iapply (recv1_windows c (G2of I (pr c))).mpr
      isplitl [HatV1_pay1]; · iexact HatV1_pay1
      isplitl [HatV2_pay1]; · iexact HatV2_pay1
      iexact HatV3_pay1
    isplitl [HW1a HW1b]
    · iexists (I c).W1
      iapply (W1_windows c (I c).W1).mpr
      isplitl [HW1a]; · iexact HW1a
      iexact HW1b
    iexists (I c).W2
    iapply (W2_windows c (I c).W2).mpr
    isplitl [HW2a]; · iexact HW2a
    iexact HW2b
  iexists W'
  iexact HO

/-- The same with the definitions open, as the run of the body leaves it. -/
theorem body_end' (K : GSem nD τ sig → ℕ) (c : Dev nD) (W' : Waits sig Unit) (Kt : PUnit → sProp 𝕄) (I : Dev nD → In F) :
    iprop((cellInv ER (rd (G0of I) (G2of I)) (K (barCell c)) (barCell c)
      ∗ cellInv ER (rd (G0of I) (G2of I)) (K (send0 c)) (send0 c) ∗ cellInv ER (rd (G0of I) (G2of I)) (K (send1 c)) (send1 c)
      ∗ cellInv ER (rd (G0of I) (G2of I)) (K (send2 c)) (send2 c) ∗ cellInv ER (rd (G0of I) (G2of I)) (K (send3 c)) (send3 c)
      ∗ cellInv ER (rd (G0of I) (G2of I)) (K (recv0 c)) (recv0 c) ∗ cellInv ER (rd (G0of I) (G2of I)) (K (recv1 c)) (recv1 c)
      ∗ cellInv ER (rd (G0of I) (G2of I)) (K (recv2 c)) (recv2 c) ∗ cellInv ER (rd (G0of I) (G2of I)) (K (recv3 c)) (recv3 c)
      ∗ cellInv ER (rd (G0of I) (G2of I)) (K (barCell (pr c))) (barCell (pr c))
      ∗ cellInv ER (rd (G0of I) (G2of I)) (K (recv0 (pr c))) (recv0 (pr c)) ∗ cellInv ER (rd (G0of I) (G2of I)) (K (recv1 (pr c))) (recv1 (pr c))
      ∗ cellInv ER (rd (G0of I) (G2of I)) (K (recv2 (pr c))) (recv2 (pr c)) ∗ cellInv ER (rd (G0of I) (G2of I)) (K (recv3 (pr c))) (recv3 (pr c)))
      ∗ (atPos ER (barCell c) 1 ∅ 0 ∗ atPos ER (send0 c) 1 ∅ 0 ∗ atPos ER (send1 c) 1 ∅ 0 ∗ atPos ER (send2 c) 1 ∅ 0 ∗ atPos ER (send3 c) 1 ∅ 0
        ∗ atPos ER (recv0 c) 1 ∅ 0 ∗ atPos ER (recv1 c) 1 ∅ 0 ∗ atPos ER (recv2 c) 1 ∅ 0 ∗ atPos ER (recv3 c) 1 ∅ 0)
      ∗ (semVal ((c : Thread nD τ), .dma (sem0 cc0_scratch6)) 0 ∗ semVal ((c : Thread nD τ), .dma (sem1 cc0_scratch6)) 0
    ∗ semVal ((c : Thread nD τ), .dma (sem2 cc0_scratch6)) 0 ∗ semVal ((c : Thread nD τ), .dma (sem3 cc0_scratch6)) 0) ∗ (pt c cc0_stg0_0 (I c).x ∗ pt c cc0_stg1_0 (I c).pc ∗ pt c cc0_stg2_0 (I c).pq ∗ pt c cc0_stg3_0 (outOf I c)
    ∗ pt c main_arg2 (I c).W1 ∗ pt c main_arg3 (I c).W2)
      ∗ (vPts mSend0 c (G0of I c) ∗ vPts mRecv0 c (G0of I (pr c))
        ∗ vPts (lo mSend1) c (G2of I c) ∗ vPts (mid mSend1) c (G2of I c) ∗ vPts (hi mSend1) c (G2of I c)
        ∗ vPts (lo mRecv1) c (G2of I (pr c)) ∗ vPts (mid mRecv1) c (G2of I (pr c)) ∗ vPts (hi mRecv1) c (G2of I (pr c)))
      ∗ (vPts (w1a mW1) c (I c).W1 ∗ vPts (w1b mW1) c (I c).W1 ∗ vPts (w2a mW2) c (I c).W2 ∗ vPts (w2b mW2) c (I c).W2)
      ∗ owes (c : Thread nD τ) 0 W'
      ∗ ((semVal (barCell c) 0 ∗ (semVal (send0 c) 0 ∗ semVal (send1 c) 0 ∗ semVal (send2 c) 0 ∗ semVal (send3 c) 0
    ∗ semVal (recv0 c) 0 ∗ semVal (recv1 c) 0 ∗ semVal (recv2 c) 0 ∗ semVal (recv3 c) 0) ∗ (semVal ((c : Thread nD τ), .dma (sem0 cc0_scratch6)) 0 ∗ semVal ((c : Thread nD τ), .dma (sem1 cc0_scratch6)) 0
    ∗ semVal ((c : Thread nD τ), .dma (sem2 cc0_scratch6)) 0 ∗ semVal ((c : Thread nD τ), .dma (sem3 cc0_scratch6)) 0) ∗ (pt c cc0_stg0_0 (I c).x ∗ pt c cc0_stg1_0 (I c).pc ∗ pt c cc0_stg2_0 (I c).pq ∗ pt c cc0_stg3_0 (outOf I c)
    ∗ pt c main_arg2 (I c).W1 ∗ pt c main_arg3 (I c).W2) ∗ ((∃ f, pt c cc0_scratch0 f) ∗ (∃ f, pt c cc0_scratch1 f) ∗ (∃ f, pt c cc0_scratch2 f) ∗ (∃ f, pt c cc0_scratch3 f)
    ∗ (∃ f, pt c cc0_scratch4 f) ∗ (∃ f, pt c cc0_scratch5 f)) ∗ ∃ W', owes (c : Thread nD τ) 0 W') -∗ Kt ⟨⟩))
      ⊢ (iprop(|={Set.univ}=> Kt ⟨⟩) : sProp 𝕄) :=
  body_end K c W' Kt I

set_option maxHeartbeats 4000000 in
/-- The body on device `c`: from the cells at their starts and the inputs' windows, it leaves the output window at the device's
    block, every semaphore at zero, and owes nothing. -/
theorem body_run (K : GSem nD τ sig → ℕ) (c : Dev nD) (W : Waits sig Unit) (Kt : PUnit → sProp 𝕄) (I : Dev nD → In F) (o : (cc0_stg3_0 : Ref sig .tc).ty.Contents (Elt F)) :
    iprop((invs I K c ∗ starts c ∗ opens c ∗ dutiesOf c ∗ credits c ∗ levAts L lv ∗ localSems c ∗ blocks I c o ∗ scratches c ∗ owes (c : Thread nD τ) (O₀ c) W)
      ∗ ((semVal (barCell c) 0 ∗ xferSems c ∗ localSems c ∗ blocks I c (outOf I c) ∗ scratches c ∗ ∃ W', owes (c : Thread nD τ) 0 W') -∗ Kt ⟨⟩))
      ⊢ wp frame (wpE (defs₀ (F := F)) 𝒱₀ c none) Set.univ (cc0_body (stage0_0 0) (hstage0_0 0) (stage0_1 0) (hstage0_1 0) (stage0_2 0) (hstage0_2 0) (Memref.whole main_arg2) (Memref.isWhole_whole _) (Memref.whole main_arg3) (Memref.isWhole_whole _) (stage0_3 0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8) Kt := by
  unfold invs starts opens dutiesOf credits localSems xferSems blocks scratches
  iintro ⟨⟨⟨#HIb, #HIs0, #HIs1, #HIs2, #HIs3, #HIv0, #HIv1, #HIv2, #HIv3, #HIbP, #HIvP0, #HIvP1, #HIvP2, #HIvP3⟩,
    ⟨HatB, HatS0, HatS1, HatS2, HatS3, HatV0, HatV1, HatV2, HatV3⟩,
    ⟨#HrBP, #HrS0, #HrS1, #HrS2, #HrS3, #HrV0, #HrV1, #HrV2, #HrV3⟩,
    ⟨HtBP, HtVP0, HtVP1, HtVP2, HtVP3, HtS0, HtS1, HtS2, HtS3⟩,
    ⟨HcB, HcV0, HcV1, HcV2, HcV3⟩, #Hlev, ⟨Hw0, Hw1, Hw2, Hw3⟩, ⟨Hx, Hpc, Hpq, Ho, Ha2, Ha3⟩,
    ⟨⟨%g0, Hg0⟩, ⟨%g1, Hr0⟩, ⟨%g2, Hg2⟩, ⟨%g3, Hr⟩, ⟨%w1, HW1⟩, ⟨%w2, HW2⟩⟩, HO⟩, Hk⟩
  ihave Hr0 := (Entails.of_eq (pt_whole cc0_scratch1 c g1)) $$ Hr0
  ihave Hg2 := (send1_windows c g2).mp $$ Hg2
  ihave Hr := (recv1_windows c g3).mp $$ Hr
  ihave HW1 := (W1_windows c w1).mp $$ HW1
  ihave HW2 := (W2_windows c w2).mp $$ HW2
  icases Hg2 with ⟨Hg2a, Hg2b, Hg2c⟩
  icases Hr with ⟨Hr1, Hr2, Hr3⟩
  icases HW1 with ⟨HW1a, HW1b⟩
  icases HW2 with ⟨HW2a, HW2b⟩
  ihave #Hmb := (mayWait_bar c) $$ Hlev
  ihave #Hm0 := (mayWait_b c (.dma (sem0 cc0_scratch6)) (by decide)) $$ Hlev
  ihave #Hm1 := (mayWait_b c (.dma (sem1 cc0_scratch6)) (by decide)) $$ Hlev
  ihave #Hm2 := (mayWait_b c (.dma (sem2 cc0_scratch6)) (by decide)) $$ Hlev
  ihave #Hm3 := (mayWait_b c (.dma (sem3 cc0_scratch6)) (by decide)) $$ Hlev
  ihave #Hms0 := (mayWait_b c (.dma (sem0 cc0_scratch7)) (by decide)) $$ Hlev
  ihave #Hmv0 := (mayWait_b c (.dma (sem0 cc0_scratch8)) (by decide)) $$ Hlev
  have hm0 := mayWait_b (F := F) c (.dma (sem0 cc0_scratch6)) (by decide)
  have hm1 := mayWait_b (F := F) c (.dma (sem1 cc0_scratch6)) (by decide)
  have hm2 := mayWait_b (F := F) c (.dma (sem2 cc0_scratch6)) (by decide)
  have hm3 := mayWait_b (F := F) c (.dma (sem3 cc0_scratch6)) (by decide)
  rw [cc0_body_eq_skeleton]
  unfold cc0_body_skel
  rw [k0_part1_eq_skeleton, k0_part2_eq_skeleton, k0_part3_eq_skeleton]
  unfold k0_part1_skel k0_part2_skel k0_part3_skel
  unfold O₀
  sl_exec
  simp only [dev1_eq c, show ((1#32 : BitVec 32).toInt) = ((1 : ℕ) : ℤ) from by decide]
  iapply (Rounds.wp_signal 𝒱₀ ER (rd (G0of I) (G2of I)) (c : Thread nD τ) none (dst := (pr c : Thread nD τ)) (sem := barS) (r := 0) (d := ()) (κ := K (barCell (pr c)))
      (by rw [duties_bar]; exact Finset.mem_singleton_self _) (amount_bar (G0of I) (G2of I) (pr c) ()) () (Oa c) rfl)
    $$ [HO HtBP Hr0 Hr1 Hr2 Hr3]
  · isplitr; · iexact HIbP
    isplitl [HO]; · iexact HO
    isplitl [HtBP]; · iexact HtBP
    isplitl [Hr0 Hr1 Hr2 Hr3]
    · rw [payload_barP]
      isplitl [Hr0]; · iexists g1; iexact Hr0
      isplitl [Hr1]; · iexists g3; iexact Hr1
      isplitl [Hr2]; · iexists g3; iexact Hr2
      isplitl [Hr3]; · iexists g3; iexact Hr3
      isplitr; · iexact HrV0
      isplitr; · iexact HrV1
      isplitr; · iexact HrV2
      iexact HrV3
    iexact HrBP
  iintro HO
  sl_exec
  ihave Hg0' := (Entails.of_eq (sent_congr I c g0)) $$ Hg0
  iapply (wp_sendTo (G0of I) (G2of I) c _ (dev2_eq c) (src := mSend0) (dst := mRecv0) (sS := sem0 cc0_scratch7) (sem := sem0 cc0_scratch8)
      (G0of I c) HatB_pay1_v (κ₁ := K (send0 c)) (κ₂ := K (recv0 (pr c))) (duties_send0 _ _ c) (duties_recv0 _ _ (pr c)) N0 rfl (amount_send0 _ _ c ()) (amount_recv0 _ _ (pr c) ()) (Ob c)
      (payload_send0' _ _ c ()) (by rw [payload_recv0', pr_pr, landed0])) $$ [Hg0' HatB_pay1 HO HtS0 HtVP0 HatB_pay5]
  · isplitr; · iexact HIs0
    isplitr; · iexact HIvP0
    isplitl [Hg0']; · iexact Hg0'
    isplitl [HatB_pay1]; · iexact HatB_pay1
    isplitl [HO]; · iexact HO
    isplitl [HtS0]; · iexact HtS0
    isplitr; · iexact HrS0
    isplitl [HtVP0]; · iexact HtVP0
    iexact HatB_pay5
  iintro ⟨HcS0, HO⟩
  rw [k0_part4_eq_skeleton, k0_part5_eq_skeleton, k0_part6_eq_skeleton]
  unfold k0_part4_skel k0_part5_skel k0_part6_skel
  sl_exec
  ihave HW1a := (Entails.of_eq (vPts_landed (w1a mW1) c w1 (body_run.sl.dma0 c I) (I c).W1 rfl)) $$ HW1a
  ihave HW2a := (Entails.of_eq (vPts_landed (w2a mW2) c w2 (body_run.sl.dma0_1 c I) (I c).W2 rfl)) $$ HW2a
  sl_exec
  ihave HW1b := (Entails.of_eq (vPts_landed (w1b mW1) c w1 (body_run.sl.dma0_2 c I) (I c).W1 rfl)) $$ HW1b
  ihave HW2b := (Entails.of_eq (vPts_landed (w2b mW2) c w2 (body_run.sl.dma0_3 c I) (I c).W2 rfl)) $$ HW2b
  sl_exec
  have hA : (body_run.sl.Hg2a_w1 c I g2) = ((mSend1.access rLo).write (Elt F) g2
      (k0_pay9 (View.readAt (Elt F) mRecv0.view rLo.toLoadRect (sent (I (pr c)))) (View.readAt (Elt F) mW1.view u1B0.toLoadRect (I c).W1)
        (View.readAt (Elt F) mW2.view u2B0.toLoadRect (I c).W2)) Finset.univ) := by
    sl_unfold_run_names
    rfl
  ihave Hg2a := (Entails.of_eq ((congrArg (fun f => (vPts (lo mSend1) c f : sProp 𝕄)) hA).trans (stored_lo I c g2))) $$ Hg2a
  iapply (wp_sendTo (G0of I) (G2of I) c _ (dev3_eq c) (src := lo mSend1) (dst := lo mRecv1) (sS := sem1 cc0_scratch7) (sem := sem1 cc0_scratch8)
      (G2of I c) HatB_pay2_v (κ₁ := K (send1 c)) (κ₂ := K (recv1 (pr c))) (duties_send1 _ _ c) (duties_recv1 _ _ (pr c)) N1 rfl (amount_send1 _ _ c ()) (amount_recv1 _ _ (pr c) ()) (tallyAt (recv3 (pr c)) () N3 + tallyAt (recv2 (pr c)) () N2)
      (payload_send1' _ _ c ()) (by rw [payload_recv1', pr_pr, landed_lo])) $$ [Hg2a HatB_pay2 HO HtS1 HtVP1 HatB_pay6]
  · isplitr; · iexact HIs1
    isplitr; · iexact HIvP1
    isplitl [Hg2a]; · iexact Hg2a
    isplitl [HatB_pay2]; · iexact HatB_pay2
    isplitl [HO]; · iexact HO
    isplitl [HtS1]; · iexact HtS1
    isplitr; · iexact HrS1
    isplitl [HtVP1]; · iexact HtVP1
    iexact HatB_pay6
  iintro ⟨HcS1, HO⟩
  sl_exec
  have hA_mid : (body_run.sl.Hg2b_w1 c I g2) = ((mSend1.access rMid).write (Elt F) g2
      (k0_pay10 (View.readAt (Elt F) mRecv0.view rMid.toLoadRect (sent (I (pr c)))) (View.readAt (Elt F) mW1.view u1B1.toLoadRect (I c).W1)
        (View.readAt (Elt F) mW2.view u2B1.toLoadRect (I c).W2)) Finset.univ) := by
    sl_unfold_run_names
    rfl
  ihave Hg2b := (Entails.of_eq ((congrArg (fun f => (vPts (mid mSend1) c f : sProp 𝕄)) hA_mid).trans (stored_mid I c g2))) $$ Hg2b
  iapply (wp_sendTo (G0of I) (G2of I) c _ (dev4_eq c) (src := mid mSend1) (dst := mid mRecv1) (sS := sem2 cc0_scratch7) (sem := sem2 cc0_scratch8)
      (G2of I c) HatB_pay3_v (κ₁ := K (send2 c)) (κ₂ := K (recv2 (pr c))) (duties_send2 _ _ c) (duties_recv2 _ _ (pr c)) N2 rfl (amount_send2 _ _ c ()) (amount_recv2 _ _ (pr c) ()) (tallyAt (recv3 (pr c)) () N3)
      (payload_send2' _ _ c ()) (by rw [payload_recv2', pr_pr, landed_mid])) $$ [Hg2b HatB_pay3 HO HtS2 HtVP2 HatB_pay7]
  · isplitr; · iexact HIs2
    isplitr; · iexact HIvP2
    isplitl [Hg2b]; · iexact Hg2b
    isplitl [HatB_pay3]; · iexact HatB_pay3
    isplitl [HO]; · iexact HO
    isplitl [HtS2]; · iexact HtS2
    isplitr; · iexact HrS2
    isplitl [HtVP2]; · iexact HtVP2
    iexact HatB_pay7
  iintro ⟨HcS2, HO⟩
  rw [k0_part8_eq_skeleton]
  unfold k0_part8_skel
  sl_exec
  have hA_hi : (body_run.sl.Hg2c_w1 c I g2) = ((mSend1.access rHi).write (Elt F) g2
      (k0_pay11 (View.readAt (Elt F) mRecv0.view rHi.toLoadRect (sent (I (pr c)))) (View.readAt (Elt F) mW1.view u1B1.toLoadRect (I c).W1)
        (View.readAt (Elt F) mW2.view u2B1.toLoadRect (I c).W2)) Finset.univ) := by
    sl_unfold_run_names
    rfl
  ihave HO := (Entails.of_eq (congrArg (fun O => (owes (c : Thread nD τ) O _ : sProp 𝕄)) (zero_add (tallyAt (recv3 (pr c)) () N3)).symm)) $$ HO
  ihave Hg2c := (Entails.of_eq ((congrArg (fun f => (vPts (hi mSend1) c f : sProp 𝕄)) hA_hi).trans (stored_hi I c g2))) $$ Hg2c
  iapply (wp_sendTo (G0of I) (G2of I) c _ (dev5_eq c) (src := hi mSend1) (dst := hi mRecv1) (sS := sem3 cc0_scratch7) (sem := sem3 cc0_scratch8)
      (G2of I c) HatB_pay4_v (κ₁ := K (send3 c)) (κ₂ := K (recv3 (pr c))) (duties_send3 _ _ c) (duties_recv3 _ _ (pr c)) N3 rfl (amount_send3 _ _ c ()) (amount_recv3 _ _ (pr c) ()) 0
      (payload_send3' _ _ c ()) (by rw [payload_recv3', pr_pr, landed_hi])) $$ [Hg2c HatB_pay4 HO HtS3 HtVP3 HatB_pay8]
  · isplitr; · iexact HIs3
    isplitr; · iexact HIvP3
    isplitl [Hg2c]; · iexact Hg2c
    isplitl [HatB_pay4]; · iexact HatB_pay4
    isplitl [HO]; · iexact HO
    isplitl [HtS3]; · iexact HtS3
    isplitr; · iexact HrS3
    isplitl [HtVP3]; · iexact HtVP3
    iexact HatB_pay8
  iintro ⟨HcS3, HO⟩
  sl_exec
  have hout : (View.whole cc0_stg3_0).writes (Elt F) o (⟨xB, k0_pay1 (body_run.sl.r c I) (body_run.sl.r_1 c I) (body_run.sl.r_2 c I) (body_run.sl.v339 c I)
      (View.readAt (Elt F) (View.whole cc0_scratch3) rHi.toLoadRect (served (I (pr c)) (sent (I (pr (pr c))))))⟩ :: body_run.sl.Ho_1 c I) = outOf I c := by
    rw [out_stored]
    refine Eq.trans ?_ (outLoads_eq (I c) (G2of I (pr c)))
    sl_unfold_run_names
    rfl
  ihave Ho := (Entails.of_eq (congrArg (fun f => (pt c cc0_stg3_0 f : sProp 𝕄)) hout)) $$ Ho
  rw [wp_ret]
  iapply (body_end' K c _ Kt I)
  isplitr
  · isplitr; · iexact HIb
    isplitr; · iexact HIs0
    isplitr; · iexact HIs1
    isplitr; · iexact HIs2
    isplitr; · iexact HIs3
    isplitr; · iexact HIv0
    isplitr; · iexact HIv1
    isplitr; · iexact HIv2
    isplitr; · iexact HIv3
    isplitr; · iexact HIbP
    isplitr; · iexact HIvP0
    isplitr; · iexact HIvP1
    isplitr; · iexact HIvP2
    iexact HIvP3
  isplitl [HatB HatS0 HatS1 HatS2 HatS3 HatV0 HatV1 HatV2 HatV3]
  · isplitl [HatB]; · iexact HatB
    isplitl [HatS0]; · iexact HatS0
    isplitl [HatS1]; · iexact HatS1
    isplitl [HatS2]; · iexact HatS2
    isplitl [HatS3]; · iexact HatS3
    isplitl [HatV0]; · iexact HatV0
    isplitl [HatV1]; · iexact HatV1
    isplitl [HatV2]; · iexact HatV2
    iexact HatV3
  isplitl [Hw0 Hw1 Hw2 Hw3]
  · isplitl [Hw0]; · iexact Hw0
    isplitl [Hw1]; · iexact Hw1
    isplitl [Hw2]; · iexact Hw2
    iexact Hw3
  isplitl [Hx Hpc Hpq Ho Ha2 Ha3]
  · isplitl [Hx]; · iexact Hx
    isplitl [Hpc]; · iexact Hpc
    isplitl [Hpq]; · iexact Hpq
    isplitl [Ho]; · iexact Ho
    isplitl [Ha2]; · iexact Ha2
    iexact Ha3
  isplitl [HatS0_pay1 HatV0_pay1 HatS1_pay1 HatS2_pay1 HatS3_pay1 HatV1_pay1 HatV2_pay1 HatV3_pay1]
  · isplitl [HatS0_pay1]; · iexact HatS0_pay1
    isplitl [HatV0_pay1]; · iexact HatV0_pay1
    isplitl [HatS1_pay1]; · iexact HatS1_pay1
    isplitl [HatS2_pay1]; · iexact HatS2_pay1
    isplitl [HatS3_pay1]; · iexact HatS3_pay1
    isplitl [HatV1_pay1]; · iexact HatV1_pay1
    isplitl [HatV2_pay1]; · iexact HatV2_pay1
    iexact HatV3_pay1
  isplitl [HW1a HW1b HW2a HW2b]
  · isplitl [HW1a]; · iexact HW1a
    isplitl [HW1b]; · iexact HW1b
    isplitl [HW2a]; · iexact HW2a
    iexact HW2b
  isplitl [HO]; · iexact HO
  iexact Hk

end Cert.KernelIdeal.Moe
-- ==== Proof.Run.lean ====
/-
  The run of @main: the pipelined region around the body, its cells and credits dealt at launch, and the final memory of
  every weakly fair execution.
-/
module

public import proofs.«01_k».proof.Proof.Body
public import Idealize.ShloMosaic.Lib.Quiescent

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the region reads and leaves -/

/-- What the body reads on device `c`: the arrays as the host operations before the region leave them. -/
def Ins (c : Dev nD) : In F := ⟨V5 m c main_v5, V5 m c main_v26, V5 m c main_v27, V5 m c main_arg2, V5 m c main_arg3⟩

/-- What the region leaves: device `c`'s output block. -/
def outs : Outs (F := F) := fun _ r c =>
  if h : r = main_v28 then h ▸ (outOf (Ins m) c : (main_v28 : Ref sig .tc).ty.Contents (Elt F)) else V5 m c r
/-- At the result that is the output block. -/
theorem outs_v28 (c : Dev nD) : outs m 6 main_v28 c = outOf (Ins m) c := by unfold outs; rw [dif_pos rfl]

/-- The twelve scoped semaphores of the body: the local transfers', the send and the receive semaphores. -/
def osem : Fin 12 → SemLoc sig
  | 0 => .dma (sem0 cc0_scratch6) | 1 => .dma (sem1 cc0_scratch6) | 2 => .dma (sem2 cc0_scratch6) | 3 => .dma (sem3 cc0_scratch6)
  | 4 => .dma (sem0 cc0_scratch7) | 5 => .dma (sem1 cc0_scratch7) | 6 => .dma (sem2 cc0_scratch7) | 7 => .dma (sem3 cc0_scratch7)
  | 8 => .dma (sem0 cc0_scratch8) | 9 => .dma (sem1 cc0_scratch8) | 10 => .dma (sem2 cc0_scratch8) | 11 => .dma (sem3 cc0_scratch8)
/-- They are twelve different semaphores of the region, none a staging one. -/
theorem osem_facts : Pipeline.OwnSemFacts spec0 osem := by decide

/-- They at zero are the local four and the eight of the exchange at zero. -/
theorem ownSems_split (c : Dev nD) : (Pipeline.ownSems0 osem c : sProp 𝕄) ⊣⊢ iprop(localSems c ∗ xferSems c) := by
  have e : (Pipeline.ownSems0 osem c : sProp 𝕄) = bigSepL [(0 : Fin 12), 1, 2, 3, 4, 5, 6, 7, 8, 9, 10, 11] fun k => semVal ((c : Thread nD τ), osem k) 0 :=
    bigSep_univ_eq_bigSepL _ (by decide) (by decide) _
  rw [e]
  unfold localSems xferSems
  constructor
  · show iprop(semVal ((c : Thread nD τ), osem 0) 0 ∗ semVal ((c : Thread nD τ), osem 1) 0 ∗ semVal ((c : Thread nD τ), osem 2) 0 ∗ semVal ((c : Thread nD τ), osem 3) 0
      ∗ semVal ((c : Thread nD τ), osem 4) 0 ∗ semVal ((c : Thread nD τ), osem 5) 0 ∗ semVal ((c : Thread nD τ), osem 6) 0 ∗ semVal ((c : Thread nD τ), osem 7) 0
      ∗ semVal ((c : Thread nD τ), osem 8) 0 ∗ semVal ((c : Thread nD τ), osem 9) 0 ∗ semVal ((c : Thread nD τ), osem 10) 0 ∗ semVal ((c : Thread nD τ), osem 11) 0) ⊢ _
    iintro ⟨H0, H1, H2, H3, H⟩
    isplitl [H0 H1 H2 H3]
    · isplitl [H0]; · iexact H0
      isplitl [H1]; · iexact H1
      isplitl [H2]; · iexact H2
      iexact H3
    iexact H
  · show _ ⊢ iprop(semVal ((c : Thread nD τ), osem 0) 0 ∗ semVal ((c : Thread nD τ), osem 1) 0 ∗ semVal ((c : Thread nD τ), osem 2) 0 ∗ semVal ((c : Thread nD τ), osem 3) 0
      ∗ semVal ((c : Thread nD τ), osem 4) 0 ∗ semVal ((c : Thread nD τ), osem 5) 0 ∗ semVal ((c : Thread nD τ), osem 6) 0 ∗ semVal ((c : Thread nD τ), osem 7) 0
      ∗ semVal ((c : Thread nD τ), osem 8) 0 ∗ semVal ((c : Thread nD τ), osem 9) 0 ∗ semVal ((c : Thread nD τ), osem 10) 0 ∗ semVal ((c : Thread nD τ), osem 11) 0)
    iintro ⟨⟨H0, H1, H2, H3⟩, H⟩
    isplitl [H0]; · iexact H0
    isplitl [H1]; · iexact H1
    isplitl [H2]; · iexact H2
    isplitl [H3]; · iexact H3
    iexact H

/-! ## The protocol's resources before, at and after the region -/

/-- Before the region opens the eight scoped cells: the invariants, the barrier's position, the rights to open, the duties. -/
def ghost (K : GSem nD τ sig → ℕ) (c : Dev nD) : sProp 𝕄 :=
  iprop(invs (Ins m) K c ∗ atPos ER (barCell c) 0 ∅ 0
    ∗ (openTok ER (send0 c) ∗ openTok ER (send1 c) ∗ openTok ER (send2 c) ∗ openTok ER (send3 c)
      ∗ openTok ER (recv0 c) ∗ openTok ER (recv1 c) ∗ openTok ER (recv2 c) ∗ openTok ER (recv3 c))
    ∗ reached ER (barCell (pr c)) 0 ∗ dutiesOf c)
/-- What the launch keeps for the region. -/
def Tk (c : Dev nD) : sProp 𝕄 := iprop((∃ K, ghost m K c) ∗ credits c)
/-- What enters the region's invariant once the cells are open. -/
def Xk (c : Dev nD) : sProp 𝕄 :=
  iprop((∃ K, invs (Ins m) K c ∗ starts c ∗ opens c ∗ dutiesOf c) ∗ credits c ∗ levAts L lv ∗ localSems c)
/-- What leaves it: the barrier's semaphore at zero. -/
def Yk (c : Dev nD) : sProp 𝕄 := semVal (barCell c) 0
/-- The weights, which the body addresses itself. -/
def weights (c : Dev nD) : sProp 𝕄 := iprop(pt c main_arg2 (Ins m c).W1 ∗ pt c main_arg3 (Ins m c).W2)
/-- The invariant before the body's one point, and after it. -/
def PhiIn (c : Dev nD) : sProp 𝕄 := iprop(Xk m c ∗ weights m c ∗ scratches c ∗ ∃ r, prngReg c r)
/-- The invariant after the body's one point. -/
def PhiOut (c : Dev nD) : sProp 𝕄 := iprop(Yk c ∗ (localSems c ∗ xferSems c) ∗ weights m c ∗ scratches c ∗ ∃ r, prngReg c r)

/-- One dormant cell opened with its semaphore at zero. -/
theorem open_cell (I : Dev nD → In F) (κ : ℕ) (g : GSem nD τ sig) :
    iprop(cellInv ER (rd (G0of I) (G2of I)) κ g ∗ openTok ER g ∗ semVal g 0) ⊢ (iprop(|={Set.univ}=> (atPos ER g 0 ∅ 0 ∗ reached ER g 0)) : sProp 𝕄) :=
  Rounds.cell_open ER (rd (G0of I) (G2of I)) (Set.mem_univ κ)

/-- The region's entry: the eight scoped cells opened. -/
theorem hopen (c : Dev nD) : iprop(Tk m c ∗ Pipeline.ownSems0 osem c ∗ levAts L lv) ⊢ (|={Set.univ}=> Xk m c : sProp 𝕄) := by
  unfold Tk Xk ghost invs starts opens
  iintro ⟨⟨⟨%K, ⟨#HIb, #HIs0, #HIs1, #HIs2, #HIs3, #HIv0, #HIv1, #HIv2, #HIv3, #HIbP, #HIvP0, #HIvP1, #HIvP2, #HIvP3⟩, HatB,
    ⟨Ho0, Ho1, Ho2, Ho3, Hq0, Hq1, Hq2, Hq3⟩, #HrP, Hd⟩, Hc⟩, Hos, Hlev⟩
  ihave Hos' := (ownSems_split c).mp $$ Hos
  unfold xferSems
  icases Hos' with ⟨Hl, ⟨Hs0, Hs1, Hs2, Hs3, Hv0, Hv1, Hv2, Hv3⟩⟩
  imod (open_cell (Ins m) (K (send0 c)) (send0 c)) $$ [Ho0 Hs0] with ⟨Ha0, #Hr0⟩
  · isplitr; · iexact HIs0
    isplitl [Ho0] <;> iassumption
  imod (open_cell (Ins m) (K (send1 c)) (send1 c)) $$ [Ho1 Hs1] with ⟨Ha1, #Hr1⟩
  · isplitr; · iexact HIs1
    isplitl [Ho1] <;> iassumption
  imod (open_cell (Ins m) (K (send2 c)) (send2 c)) $$ [Ho2 Hs2] with ⟨Ha2, #Hr2⟩
  · isplitr; · iexact HIs2
    isplitl [Ho2] <;> iassumption
  imod (open_cell (Ins m) (K (send3 c)) (send3 c)) $$ [Ho3 Hs3] with ⟨Ha3, #Hr3⟩
  · isplitr; · iexact HIs3
    isplitl [Ho3] <;> iassumption
  imod (open_cell (Ins m) (K (recv0 c)) (recv0 c)) $$ [Hq0 Hv0] with ⟨Hb0, #Ht0⟩
  · isplitr; · iexact HIv0
    isplitl [Hq0] <;> iassumption
  imod (open_cell (Ins m) (K (recv1 c)) (recv1 c)) $$ [Hq1 Hv1] with ⟨Hb1, #Ht1⟩
  · isplitr; · iexact HIv1
    isplitl [Hq1] <;> iassumption
  imod (open_cell (Ins m) (K (recv2 c)) (recv2 c)) $$ [Hq2 Hv2] with ⟨Hb2, #Ht2⟩
  · isplitr; · iexact HIv2
    isplitl [Hq2] <;> iassumption
  imod (open_cell (Ins m) (K (recv3 c)) (recv3 c)) $$ [Hq3 Hv3] with ⟨Hb3, #Ht3⟩
  · isplitr; · iexact HIv3
    isplitl [Hq3] <;> iassumption
  imodintro
  isplitl [HatB Ha0 Ha1 Ha2 Ha3 Hb0 Hb1 Hb2 Hb3 Hd]
  · iexists K
    isplitr
    · isplitr; · iexact HIb
      isplitr; · iexact HIs0
      isplitr; · iexact HIs1
      isplitr; · iexact HIs2
      isplitr; · iexact HIs3
      isplitr; · iexact HIv0
      isplitr; · iexact HIv1
      isplitr; · iexact HIv2
      isplitr; · iexact HIv3
      isplitr; · iexact HIbP
      isplitr; · iexact HIvP0
      isplitr; · iexact HIvP1
      isplitr; · iexact HIvP2
      iexact HIvP3
    isplitl [HatB Ha0 Ha1 Ha2 Ha3 Hb0 Hb1 Hb2 Hb3]
    · isplitl [HatB]; · iexact HatB
      isplitl [Ha0]; · iexact Ha0
      isplitl [Ha1]; · iexact Ha1
      isplitl [Ha2]; · iexact Ha2
      isplitl [Ha3]; · iexact Ha3
      isplitl [Hb0]; · iexact Hb0
      isplitl [Hb1]; · iexact Hb1
      isplitl [Hb2]; · iexact Hb2
      iexact Hb3
    isplitr
    · isplitr; · iexact HrP
      isplitr; · iexact Hr0
      isplitr; · iexact Hr1
      isplitr; · iexact Hr2
      isplitr; · iexact Hr3
      isplitr; · iexact Ht0
      isplitr; · iexact Ht1
      isplitr; · iexact Ht2
      iexact Ht3
    iexact Hd
  isplitl [Hc]; · iexact Hc
  isplitl [Hlev]; · iexact Hlev
  iexact Hl

/-! ## The region's proof data -/

/-- The windows' arrays as the host operations leave them; after the body the inputs as fetched and the output block; all
    of `O₀` owed before the body's point and nothing after it. -/
def dat0 (c : Dev nD) : Pipeline.Dat τ (Elt F) Unit ℕ UU ℕ cfg0 c where
  A w := match w with
    | ⟨0, _⟩ => (Ins m c).x
    | ⟨1, _⟩ => (Ins m c).pc
    | ⟨2, _⟩ => (Ins m c).pq
    | ⟨3, _⟩ => V5 m c main_v28
  after w _ := match w with
    | ⟨0, _⟩ => (Ins m c).x
    | ⟨1, _⟩ => (Ins m c).pc
    | ⟨2, _⟩ => (Ins m c).pq
    | ⟨3, _⟩ => outOf (Ins m) c
  Φ t := if t.val = 0 then PhiIn m c else PhiOut m c
  q _ := fullShare
  owed t := if t.val = 0 then O₀ c else 0

/-- The proof data of the program's one region. -/
def pdats : (p : Fin 1) → (c : Dev nD) → Pipeline.Dat τ (Elt F) Unit ℕ UU ℕ (Pipeline.pin (pcfgs (F := F)) adm p) c
  | 0 => dat0 m

/-- Every window's one block is its whole array, at index 0. -/
theorem index_zero : ∀ (w : Fin 4) (a : Fin (win0 w).shape.rank), (win0 w).index t0_0 a = 0 := by decide +kernel
/-- Reading an input's block reads the array. -/
theorem read_blk_0 (X : S1024x1024.Idx → Elt F .bf16) : ((cfg0.win 0).blk t0_0).view.read (Elt F) X = X := by
  funext i
  show X (((cfg0.win 0).rect t0_0).emb i) = X i
  exact congrArg X (funext fun a => Fin.ext (Pipeline.Window.rect_emb_val_of_index_zero _ _ a (index_zero 0 a) i))
/-- So for the positions along columns, -/
theorem read_blk_1 (X : S4x1024x1.Idx → Elt F .i32) : ((cfg0.win 1).blk t0_0).view.read (Elt F) X = X := by
  funext i
  show X (((cfg0.win 1).rect t0_0).emb i) = X i
  exact congrArg X (funext fun a => Fin.ext (Pipeline.Window.rect_emb_val_of_index_zero _ _ a (index_zero 1 a) i))
/-- and along rows. -/
theorem read_blk_2 (X : S4x1x1024.Idx → Elt F .i32) : ((cfg0.win 2).blk t0_0).view.read (Elt F) X = X := by
  funext i
  show X (((cfg0.win 2).rect t0_0).emb i) = X i
  exact congrArg X (funext fun a => Fin.ext (Pipeline.Window.rect_emb_val_of_index_zero _ _ a (index_zero 2 a) i))

/-- the positions along columns, -/
theorem A_1 (c : Dev nD) : (dat0 m c).A 1 = (Ins m c).pc := by dsimp only [dat0]
/-- the positions along rows, -/
theorem A_2 (c : Dev nD) : (dat0 m c).A 2 = (Ins m c).pq := by dsimp only [dat0]
/-- What the body finds in the inputs' staging buffers. -/
theorem before_0 (c : Dev nD) (d : (cfg0.win 0).block.Idx → Elt F (cfg0.win 0).elt) : (dat0 m c).before 0 t0_0 d = (Ins m c).x := by
  unfold Pipeline.Dat.before; rw [if_pos (fetch0_0 _)]; exact read_blk_0 (F := F) (Ins m c).x
/-- It finds the positions along columns, -/
theorem before_1 (c : Dev nD) (d : (cfg0.win 1).block.Idx → Elt F (cfg0.win 1).elt) : (dat0 m c).before 1 t0_0 d = (Ins m c).pc := by
  unfold Pipeline.Dat.before; rw [if_pos (fetch0_1 _)];
  exact (congrArg (((cfg0.win 1).blk t0_0).view.read (Elt F)) (A_1 m c)).trans (read_blk_1 (F := F) (Ins m c).pc)
/-- and along rows. -/
theorem before_2 (c : Dev nD) (d : (cfg0.win 2).block.Idx → Elt F (cfg0.win 2).elt) : (dat0 m c).before 2 t0_0 d = (Ins m c).pq := by
  unfold Pipeline.Dat.before; rw [if_pos (fetch0_2 _)];
  exact (congrArg (((cfg0.win 2).blk t0_0).view.read (Elt F)) (A_2 m c)).trans (read_blk_2 (F := F) (Ins m c).pq)

/-- What it leaves in the staging buffers. -/
theorem after_0 (c : Dev nD) : (dat0 m c).after 0 t0_0 = (Ins m c).x := by dsimp only [dat0]
/-- The positions along columns are left, -/
theorem after_1 (c : Dev nD) : (dat0 m c).after 1 t0_0 = (Ins m c).pc := by dsimp only [dat0]
/-- and those along rows, -/
theorem after_2 (c : Dev nD) : (dat0 m c).after 2 t0_0 = (Ins m c).pq := by dsimp only [dat0]
/-- and the output's buffer holds the output block. -/
theorem after_3 (c : Dev nD) : (dat0 m c).after 3 t0_0 = outOf (Ins m) c := by dsimp only [dat0]

attribute [local irreducible] Ins outOf

/-- Before the body the invariant is its first, -/
theorem Phi_first (c : Dev nD) : (dat0 m c).Φ t0_0.castSucc = PhiIn m c := by
  show (if (t0_0.castSucc : Fin (cfg0.N + 1)).val = 0 then PhiIn m c else PhiOut m c) = _; exact if_pos rfl
/-- and after it the last; -/
theorem Phi_last (c : Dev nD) : (dat0 m c).Φ t0_0.succ = PhiOut m c := by
  show (if (t0_0.succ : Fin (cfg0.N + 1)).val = 0 then PhiIn m c else PhiOut m c) = _; exact if_neg (by decide)
/-- before it everything is owed, -/
theorem owed_first (c : Dev nD) : (dat0 m c).owed t0_0.castSucc = O₀ c := by
  show (if (t0_0.castSucc : Fin (cfg0.N + 1)).val = 0 then O₀ c else 0) = _; exact if_pos rfl
/-- and after it nothing. -/
theorem owed_last (c : Dev nD) : (dat0 m c).owed t0_0.succ = 0 := by
  show (if (t0_0.succ : Fin (cfg0.N + 1)).val = 0 then O₀ c else 0) = _; exact if_neg (by decide)

/-- The body obligation's dues, in and out. -/
theorem dues_in (c : Dev nD) : ((dat0 m c).owesAt () t0_0.castSucc : sProp 𝕄) ⊢ iprop(∃ W, owes (c : Thread nD τ) (O₀ c) W) := by
  unfold Pipeline.Dat.owesAt Pipeline.owesWithin; rw [owed_first]
  iintro ⟨%W, -, HO⟩; iexists W; iexact HO
/-- The dues after the body are none. -/
theorem dues_out (c : Dev nD) : iprop(∃ W, owes (c : Thread nD τ) 0 W) ⊢ ((dat0 m c).owesAt () t0_0.succ : sProp 𝕄) := by
  unfold Pipeline.Dat.owesAt Pipeline.owesWithin Pipeline.Dat.bound
  rw [owed_last]
  iintro ⟨%W, HO⟩; iexists W
  isplitr; · ipureintro; exact fun _ _ => Or.inl trivial
  iexact HO

/-- The body's obligation at the region's one point, by its run. -/
theorem body_ok (c : Dev nD) : BodyObligation (dat0 m c) (defs₀ (F := F)) 𝒱₀ () Set.univ := fun t => by
  obtain rfl := fin_N0 t
  rw [bigSep_W0, bigSep_W0]
  simp only [Idealize.ShloMosaic.owns_whole_eq]
  rw [Phi_first, Phi_last, after_0, after_1, after_2, after_3]
  unfold PhiIn PhiOut Xk Yk weights
  iintro ⟨⟨⟨⟨%K, HI, Hst, Hop, Hdu⟩, Hc, Hlev, Hl⟩, ⟨Hw1, Hw2⟩, Hsc, Hp⟩, HO, ⟨%d0, %f0, %hf0, H0⟩, ⟨%d1, %f1, %hf1, H1⟩, ⟨%d2, %f2, %hf2, H2⟩, ⟨%d3, %f3, %hf3, H3⟩⟩
  rw [before_0] at hf0
  rw [before_1] at hf1
  rw [before_2] at hf2
  subst hf0 hf1 hf2
  ihave HO' := (dues_in m c) $$ HO
  icases HO' with ⟨%W, HO⟩
  iapply (body_run K c W _ (Ins m) f3)
  isplitr [Hp]
  · isplitl [HI]; · iexact HI
    isplitl [Hst]; · iexact Hst
    isplitl [Hop]; · iexact Hop
    isplitl [Hdu]; · iexact Hdu
    isplitl [Hc]; · iexact Hc
    isplitl [Hlev]; · iexact Hlev
    isplitl [Hl]; · iexact Hl
    isplitl [H0 H1 H2 H3 Hw1 Hw2]
    · unfold blocks
      isplitl [H0]; · iexact H0
      isplitl [H1]; · iexact H1
      isplitl [H2]; · iexact H2
      isplitl [H3]; · iexact H3
      isplitl [Hw1] <;> iassumption
    isplitl [Hsc]; · iexact Hsc
    iexact HO
  unfold blocks
  iintro ⟨Hb, Hx, Hl, ⟨H0, H1, H2, H3, Hw1, Hw2⟩, Hsc, HO⟩
  isplitr [HO H0 H1 H2 H3]
  · isplitl [Hb]; · iexact Hb
    isplitl [Hl Hx]; · isplitl [Hl] <;> iassumption
    isplitl [Hw1 Hw2]; · isplitl [Hw1] <;> iassumption
    isplitl [Hsc]; · iexact Hsc
    iexact Hp
  isplitl [HO]; · iapply (dues_out m c) $$ HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  iexists _; isplitr; swap; (· iexact H3); ipureintro; rfl

end Cert.KernelIdeal.Moe
-- ==== Proof.Region.lean ====
/-
  The region of @main as the pipeline library's record: its arrays, its weights, and the levels its waits need.
-/
module

public import proofs.«01_k».proof.Proof.Run
public import Idealize.ShloMosaic.Lib.Pipeline.ValueKit.Geometry

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The buffers the body addresses itself -/

/-- The two arrays of weights. -/
def Hs : Finset (DevRef τ sig) := {Proc.devRef .tc main_arg2, Proc.devRef .tc main_arg3}
/-- The unscoped buffers but the windows' arrays. -/
def Sr : Finset (DevRef τ sig) := Pipeline.ucRefs τ sig \ Pipeline.arrRefs spec0
/-- The weights are not the windows' arrays. -/
theorem Hs_sub : Hs ⊆ Sr := by
  have hne : ∀ w : Fin 4, Pipeline.arrRef spec0 w ≠ main_arg2 ∧ Pipeline.arrRef spec0 w ≠ main_arg3 := by decide
  intro b hb
  have hno : ∀ r : Ref sig .tc, (∀ w, Pipeline.arrRef spec0 w ≠ r) → r.isScoped = false → (Proc.devRef .tc r : DevRef τ sig) ∈ Sr := by
    intro r hr hs
    refine Finset.mem_sdiff.mpr ⟨Finset.mem_filter.mpr ⟨StableHlo.devRef_mem_tcRefs _, fun h' => Bool.false_ne_true (hs.symm.trans h')⟩, ?_⟩
    intro h
    obtain ⟨r', hr', e⟩ := Finset.mem_map.mp h
    obtain ⟨w, -, rfl⟩ := Finset.mem_image.mp hr'
    exact hr w (Proc.devRef_injective _ e)
  rcases Finset.mem_insert.mp hb with h | h
  · rw [h]; exact hno _ (fun w => (hne w).1) (by decide)
  · rw [Finset.mem_singleton.mp h]; exact hno _ (fun w => (hne w).2) (by decide)

/-- The weights held are the two arrays at what the valuation says. -/
theorem held_Hs (c : Dev nD) (W : Valuation τ sig (Elt F)) :
    (StableHlo.held (c : Thread nD τ) Hs W : sProp 𝕄) = iprop(pt c main_arg2 (W main_arg2) ∗ pt c main_arg3 (W main_arg3)) := by
  unfold StableHlo.held Hs
  rw [bigSep_eq_bigSepL_of_eq [Proc.devRef .tc main_arg2, Proc.devRef .tc main_arg3] (by decide) (by decide)]
  rfl

/-- The scoped buffers no window stages are the six scratch buffers. -/
theorem rest_eq (c : Dev nD) : (Pipeline.scopedRest (Pipeline.pin (pcfgs (F := F)) adm 0).spec c : sProp 𝕄) = scratches c := scopedRest0_eq c

/-- The region starts in the body's first state, -/
theorem Phi_zero (c : Dev nD) : (pdats m 0 c).Φ 0 = PhiIn m c := by
  show (if ((0 : Fin (cfg0.N + 1)).val = 0) then PhiIn m c else PhiOut m c) = _; exact if_pos rfl
/-- and ends in its last. -/
theorem Phi_end (c : Dev nD) : (pdats m 0 c).Φ (Fin.last _) = PhiOut m c := by
  show (if (Fin.last cfg0.N).val = 0 then PhiIn m c else PhiOut m c) = _
  rw [Fin.val_last, if_neg (by rw [show cfg0.N = 1 from N_0]; decide)]
/-- It starts with everything owed, -/
theorem owed_zero (c : Dev nD) : (pdats m 0 c).owed 0 = 0 + O₀ c := by
  rw [zero_add]; show (if ((0 : Fin (cfg0.N + 1)).val = 0) then O₀ c else 0) = _; exact if_pos rfl
/-- and ends with nothing owed. -/
theorem owed_end (c : Dev nD) : (pdats m 0 c).owed (Fin.last _) = 0 := by
  show (if (Fin.last cfg0.N).val = 0 then O₀ c else 0) = _
  rw [Fin.val_last, if_neg (by rw [show cfg0.N = 1 from N_0]; decide)]

/-- The region leaves the first matrices, -/
theorem V6_arg2 (c : Dev nD) : V6 m (outs m) c main_arg2 = (Ins m c).W1 := V6_of m (outs m) c main_arg2 (by decide)
/-- and the second ones, -/
theorem V6_arg3 (c : Dev nD) : V6 m (outs m) c main_arg3 = (Ins m c).W2 := V6_of m (outs m) c main_arg3 (by decide)
/-- and the result holds the output block. -/
theorem V6_v28 (c : Dev nD) : V6 m (outs m) c main_v28 = outOf (Ins m) c := (Function.update_self ..).trans (outs_v28 m c)

/-- Into the region's invariant, and out of it. -/
theorem hin (c : Dev nD) : iprop(Pipeline.scopedRest (Pipeline.pin (pcfgs (F := F)) adm 0).spec c ∗ (∃ r, prngReg c r)
    ∗ StableHlo.held (c.tc : Thread nD τ) Hs (V5 m c) ∗ Xk m c) ⊢ (pdats m 0 c).Φ 0 := by
  rw [Phi_zero, rest_eq, held_Hs]
  unfold PhiIn weights
  iintro ⟨Hs, Hp, Hw, HX⟩
  isplitl [HX]; · iexact HX
  isplitl [Hw]; · iexact Hw
  isplitl [Hs] <;> iassumption
/-- The body's last state gives back the region's holdings. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) Hs (V6 m (outs m) c) ∗ Pipeline.ownSems0 osem c ∗ Yk c) := by
  rw [Phi_end, rest_eq, held_Hs, V6_arg2, V6_arg3]
  unfold PhiOut weights
  iintro ⟨HY, Hl, Hw, Hs, Hp⟩
  isplitl [Hs]; · iexact Hs
  isplitl [Hp]; · iexact Hp
  isplitl [Hw]; · iexact Hw
  isplitl [Hl]; · iapply (ownSems_split c).mpr; iexact Hl
  iexact HY

/-- Whatever a device owes sits at level 1 or above. -/
theorem owed_level (c : Dev nD) {g : GSem nD τ sig} {u : Unit} (h : 0 < O₀ c g u) : u ∈ L g ∧ (0 : ℕ) < lv g u := by
  have key : ∀ sm : SemLoc sig, 0 < lvOf (role sm) → g = ((pr c : Thread nD τ), sm) → u ∈ L g ∧ (0 : ℕ) < lv g u := by
    rintro sm hsm rfl
    exact ⟨by rw [L_tc]; exact Finset.mem_singleton_self _, hsm⟩
  rcases Nat.add_pos_iff_pos_or_pos.mp (show 0 < Oa c g u + tallyAt (barCell (pr c)) () 1 g u from h) with h | h
  · rcases Nat.add_pos_iff_pos_or_pos.mp (show 0 < Ob c g u + tallyAt (recv0 (pr c)) () N0 g u from h) with h | h
    · rcases Ob_pos h with h | h | h
      · exact key _ (by rw [role_recv3]; decide) h
      · exact key _ (by rw [role_recv2]; decide) h
      · exact key _ (by rw [role_recv1]; decide) h
    · exact key _ (by rw [role_recv0]; decide) (tallyAt_pos h)
  · exact key _ (by rw [role_bar]; decide) (tallyAt_pos h)

/-- The staging semaphores sit at level 0. -/
theorem stage_level : ∀ (w : Fin 4) (s : Fin (win0 w).nbuf), lvOf (role (.dma ((win0 w).sem s))) ≤ 0 := by decide

/-- The staging waits sit below everything owed. -/
theorem cut : Pipeline.LevelCutOwed (pcfgs (F := F)) adm (pdats m) () L lv 0 (fun _ => 0) where
  hι c w s := by rw [L_tc]; exact Finset.mem_singleton_self _
  hιb c w s := stage_level w s
  hD c t g i h := by
    have e : (pdats m 0 c).owed t = if t.val = 0 then O₀ c else 0 := rfl
    rw [e] at h
    split at h
    · exact owed_level c h
    · exact absurd h (Nat.lt_irrefl 0)

/-! ## The arrays before and after -/

attribute [local irreducible] outOf

/-- The arrays as the region finds them: the tokens, -/
theorem A_0 (c : Dev nD) : (dat0 m c).A 0 = (Ins m c).x := by dsimp only [dat0]
/-- and the result's, not yet written. -/
theorem A_3 (c : Dev nD) : (dat0 m c).A 3 = V5 m c main_v28 := by dsimp only [dat0]
/-- The body's tokens are the host operations' result; -/
theorem Ins_x (c : Dev nD) : (Ins m c).x = V5 m c main_v5 := by dsimp only [Ins]
/-- so are the positions along columns -/
theorem Ins_pc (c : Dev nD) : (Ins m c).pc = V5 m c main_v26 := by dsimp only [Ins]
/-- and along rows. -/
theorem Ins_pq (c : Dev nD) : (Ins m c).pq = V5 m c main_v27 := by dsimp only [Ins]

/-- Each window's array before the region is what the host operations left there: the first, -/
theorem arr_before_0 (c : Dev nD) : (dat0 m c).arrAt 0 0 = V5 m c main_v5 := (A_0 m c).trans (Ins_x m c)
/-- the second, -/
theorem arr_before_1 (c : Dev nD) : (dat0 m c).arrAt 1 0 = V5 m c main_v26 := (A_1 m c).trans (Ins_pc m c)
/-- the third, -/
theorem arr_before_2 (c : Dev nD) : (dat0 m c).arrAt 2 0 = V5 m c main_v27 := (A_2 m c).trans (Ins_pq m c)
/-- the fourth, -/
theorem arr_before_3 (c : Dev nD) : (dat0 m c).arrAt 3 0 = V5 m c main_v28 := A_3 m c

/-- any of them. -/
theorem arr_before (c : Dev nD) (w : Fin 4) : (dat0 m c).arrAt w 0 = V5 m c (Proc.devRef .tc (Pipeline.arrRef spec0 w)) := by
  fin_cases w
  · exact arr_before_0 m c
  · exact arr_before_1 m c
  · exact arr_before_2 m c
  · exact arr_before_3 m c

/-- The output array after the region. -/
theorem arr_out (c : Dev nD) : (dat0 m c).arrAt 3 cfg0.N = outOf (Ins m) c :=
  (dat0 m c).arrAt_eq_of_after_last 3 t0_0 (by decide +kernel) (outOf (Ins m) c) (fun j => by rw [after_3]; rfl)

/-- Each window's array after the region: the first, -/
theorem arr_after_0 (c : Dev nD) : (dat0 m c).arrAt 0 cfg0.N = V6 m (outs m) c main_v5 :=
  ((dat0 m c).arrAt_in 0 rfl _).trans ((arr_before_0 m c).trans (V6_of m (outs m) c main_v5 (by decide)).symm)
/-- the second, -/
theorem arr_after_1 (c : Dev nD) : (dat0 m c).arrAt 1 cfg0.N = V6 m (outs m) c main_v26 :=
  ((dat0 m c).arrAt_in 1 rfl _).trans ((arr_before_1 m c).trans (V6_of m (outs m) c main_v26 (by decide)).symm)
/-- the third, -/
theorem arr_after_2 (c : Dev nD) : (dat0 m c).arrAt 2 cfg0.N = V6 m (outs m) c main_v27 :=
  ((dat0 m c).arrAt_in 2 rfl _).trans ((arr_before_2 m c).trans (V6_of m (outs m) c main_v27 (by decide)).symm)
/-- the fourth, with the result, -/
theorem arr_after_3 (c : Dev nD) : (dat0 m c).arrAt 3 cfg0.N = V6 m (outs m) c main_v28 := (arr_out m c).trans (V6_v28 m c).symm

/-- any of them. -/
theorem arr_after (c : Dev nD) (w : Fin 4) : (dat0 m c).arrAt w cfg0.N = V6 m (outs m) c (Proc.devRef .tc (Pipeline.arrRef spec0 w)) := by
  fin_cases w
  · exact arr_after_0 m c
  · exact arr_after_1 m c
  · exact arr_after_2 m c
  · exact arr_after_3 m c

/-- Off the output array the region changes nothing. -/
theorem rest_same (c : Dev nD) : ∀ b ∈ Sr \ Hs, V6 m (outs m) c b = V5 m c b := fun b hb => by
  have hb := (Finset.mem_sdiff.mp (Finset.mem_sdiff.mp hb).1).2
  refine Function.update_of_ne (fun h => hb ?_) _ _
  rw [h]
  exact Finset.mem_map_of_mem _ (Finset.mem_image_of_mem (Pipeline.arrRef spec0) (Finset.mem_univ (3 : Fin 4)))

/-- The launch facts of the region's pipeline. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

set_option backward.isDefEq.respectTransparency.types false in
/-- The region. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem osem_facts
    Hs Sr Hs_sub kitP rfl (fun c => (body_ok m c).loose)
    (fun _ => 0) O₀ (owed_zero m) (owed_end m) (fun _ => rfl) (fun c => (pdats m 0 c).share_full fun _ => rfl)
    (V5 m) (V6 m (outs m)) (rest_same m)
    (Tk m) Yk (Xk m) Yk (hopen m) (hin m) (hout m)
    (fun c => by iintro H; imodintro; iexact H)
    (fun _ => 0) (cut m)
    (fun _ => iprop(emp))
    (arr_before m) (arr_after m)

/-! ## The region's entry and exit, over all unscoped buffers -/

/-- What rides beside the buffers up to the region, and what is left after it. -/
def E (j : Fin 2) (c : Dev nD) : sProp 𝕄 :=
  if j = 0 then iprop(Tk m c ∗ (∃ r, prngReg c r) ∗ ∃ W, owes (c : Thread nD τ) (O₀ c) W)
  else iprop(Yk c ∗ ∃ W, owes (c : Thread nD τ) (0 : CellTallies nD τ sig Unit) W)
/-- A device's state before the region, -/
theorem E_zero (c : Dev nD) : E m 0 c = iprop(Tk m c ∗ (∃ r, prngReg c r) ∗ ∃ W, owes (c : Thread nD τ) (O₀ c) W) := if_pos rfl
/-- and after it. -/
theorem E_one (c : Dev nD) : E m 1 c = iprop(Yk c ∗ ∃ W, owes (c : Thread nD τ) (0 : CellTallies nD τ sig Unit) W) := if_neg (by decide)

/-- The windows' arrays are among the unscoped buffers. -/
theorem arr_sub : Pipeline.arrRefs spec0 ⊆ Pipeline.ucRefs τ sig := Pipeline.arrRefs_sub_ucRefs _ (by decide)

/-- The state before the region is what the region takes, -/
theorem reg0_pre (c : Dev nD) : iprop(StableHlo.held (c : Thread nD τ) (Pipeline.ucRefs τ sig) (V5 m c) ∗ E m 0 c) ⊢ (reg0 m).pre c := by
  show _ ⊢ iprop(StableHlo.held (c.tc : Thread nD τ) (Pipeline.arrRefs (τ := τ) (pcfgs (F := F) 0).spec) (V5 m c) ∗ (∃ r, prngReg c r)
    ∗ (StableHlo.held (c.tc : Thread nD τ) Sr (V5 m c) ∗ emp) ∗ Tk m c ∗ ∃ Wd, owes (c : Thread nD τ) (0 + O₀ c) Wd)
  rw [E_zero, zero_add, StableHlo.held_sub_split (c : Thread nD τ) arr_sub (V5 m c)]
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

/-- and what it leaves is the state after. -/
theorem reg0_post (c : Dev nD) : (reg0 m).post c ⊢ iprop(StableHlo.held (c : Thread nD τ) (Pipeline.ucRefs τ sig) (V6 m (outs m) c) ∗ E m 1 c) := by
  show iprop(StableHlo.held (c.tc : Thread nD τ) (Pipeline.arrRefs (τ := τ) (pcfgs (F := F) 0).spec) (V6 m (outs m) c) ∗ (∃ r, prngReg c r)
    ∗ (StableHlo.held (c.tc : Thread nD τ) Sr (V6 m (outs m) c) ∗ emp) ∗ Yk c ∗ ∃ Wd, owes (c : Thread nD τ) (0 : CellTallies nD τ sig Unit) Wd) ⊢ _
  rw [E_one, StableHlo.held_sub_split (c : Thread nD τ) arr_sub (V6 m (outs m) c)]
  iintro ⟨Ha, -, ⟨Hr, -⟩, HY, HO⟩
  isplitl [Ha Hr]
  · isplitl [Ha]; · iexact Ha
    iexact Hr
  isplitl [HY]; · iexact HY
  iexact HO

end Cert.KernelIdeal.Moe
-- ==== Proof.Launch.lean ====
/-
  The launch: the cells allocated (the barriers open, the transfers' dormant), the duties and the credits dealt.
-/
module

public import proofs.«01_k».proof.Proof.Region

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duties' tokens -/

/-- The eight semaphores of the exchange. -/
def xsem : Fin 8 → SemLoc sig
  | 0 => .dma (sem0 cc0_scratch7) | 1 => .dma (sem1 cc0_scratch7) | 2 => .dma (sem2 cc0_scratch7) | 3 => .dma (sem3 cc0_scratch7)
  | 4 => .dma (sem0 cc0_scratch8) | 5 => .dma (sem1 cc0_scratch8) | 6 => .dma (sem2 cc0_scratch8) | 7 => .dma (sem3 cc0_scratch8)
/-- The nine that carry a duty. -/
def tsem : Fin 9 → SemLoc sig
  | 0 => .reg barS
  | 1 => .dma (sem0 cc0_scratch8) | 2 => .dma (sem1 cc0_scratch8) | 3 => .dma (sem2 cc0_scratch8) | 4 => .dma (sem3 cc0_scratch8)
  | 5 => .dma (sem0 cc0_scratch7) | 6 => .dma (sem1 cc0_scratch7) | 7 => .dma (sem2 cc0_scratch7) | 8 => .dma (sem3 cc0_scratch7)
/-- The eight are different semaphores, -/
theorem xsem_inj : Function.Injective xsem := by decide
/-- so are the nine, -/
theorem tsem_inj : Function.Injective tsem := by decide
/-- and none of the eight is the barrier. -/
theorem xsem_ne_bar : ∀ k : Fin 8, xsem k ≠ .reg barS := by decide

/-- The barrier's cell of each device; -/
def barEmb : Dev nD ↪ GSem nD τ sig := ⟨fun c => barCell c, fun _ _ h => congrArg (fun g : GSem nD τ sig => g.1.1) h⟩
/-- the eight transfer cells of each device; -/
def scEmb : Dev nD × Fin 8 ↪ GSem nD τ sig :=
  ⟨fun ck => ((ck.1 : Thread nD τ), xsem ck.2), fun _ _ h =>
    Prod.ext (congrArg (fun g : GSem nD τ sig => g.1.1) h) (xsem_inj (congrArg Prod.snd h))⟩
/-- the nine duties on each device's cells. -/
def tokEmb : Dev nD × Fin 9 ↪ GSem nD τ sig × ℕ × Unit :=
  ⟨fun ck => (((ck.1 : Thread nD τ), tsem ck.2), 0, ()), fun _ _ h =>
    Prod.ext (congrArg (fun t : GSem nD τ sig × ℕ × Unit => t.1.1.1) h) (tsem_inj (congrArg (fun t : GSem nD τ sig × ℕ × Unit => t.1.2) h))⟩
/-- The barriers' cells, funded from their counters; the transfers' cells, funded dormant; every duty's token. -/
abbrev barCells : Finset (GSem nD τ sig) := Finset.univ.map barEmb
/-- The transfers' cells, funded dormant. -/
abbrev scCells : Finset (GSem nD τ sig) := Finset.univ.map scEmb
/-- Every duty's token. -/
abbrev toks : Finset (GSem nD τ sig × ℕ × Unit) := Finset.univ.map tokEmb

/-- No barrier's cell is a transfer's. -/
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact xsem_ne_bar ck.2 (congrArg Prod.snd h)

/-- A device's barrier is among the cells, -/
theorem bar_mem (c : Dev nD) : barCell c ∈ (barCells ∪ scCells : Finset (GSem nD τ sig)) :=
  Finset.mem_union_left _ (Finset.mem_map_of_mem barEmb (Finset.mem_univ c))
/-- and so are its transfer cells. -/
theorem xsem_mem (c : Dev nD) (k : Fin 8) : ((c : Thread nD τ), xsem k) ∈ (barCells ∪ scCells : Finset (GSem nD τ sig)) :=
  Finset.mem_union_right _ (Finset.mem_map_of_mem scEmb (Finset.mem_univ (c, k)))

/-- The launch element: the pipeline library's at the staging cells, and the exchange's. -/
def u₀ : UU :=
  (initOf (Pipeline.cells cfgs cellOf_inj) (Pipeline.launchToks cfgs cellOf_inj),
    (Emb.inl : Emb (UR sig nD τ) (UR sig nD τ × Counters)) (launchOf barCells scCells toks))

/-- A resource dealt to device 0 only. -/
def onFirst (X : sProp 𝕄) (c : Dev nD) : sProp 𝕄 := if c = 0 then X else iprop(emp)
/-- What device 0 alone holds is all there is. -/
theorem bigSep_onFirst (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

/-- The exchange's launch element, parked on device 0 until the cells are allocated. -/
def G : Dev nD → sProp 𝕄 := onFirst (BI.own (ER (launchOf barCells scCells toks)))

/-- The launch element gives the staging pipeline's part and the exchange's. -/
theorem hu₀ : (ownU u₀ : sProp 𝕄) ⊢ |={Set.univ}=> iprop(BI.own (EP (initOf (Pipeline.cells cfgs cellOf_inj) (Pipeline.launchToks cfgs cellOf_inj))) ∗ bigSep Finset.univ G) := by
  unfold u₀ G
  iintro Hu
  ihave H := (ownU_pair _ _) $$ Hu
  icases H with ⟨HP, HX⟩
  imodintro
  isplitl [HP]; · iexact HP
  rw [bigSep_onFirst]; iexact HX

/-! ## Dealing the ghost state -/

/-- What every device may consult: all the invariants, and that every barrier's cell has reached round 0. -/
def records (κ : GSem nD τ sig → ℕ) : sProp 𝕄 :=
  iprop((bigSep (barCells ∪ scCells) fun g => cellInv ER (rd (G0of (Ins m)) (G2of (Ins m))) (κ g) g) ∗ bigSep barCells fun g => reached ER g 0)
/-- The records may be kept by every device. -/
instance records_persistent (κ : GSem nD τ sig → ℕ) : BI.Persistent (records m κ) := by unfold records; infer_instance

/-- Every cell's invariant is among the records, -/
theorem inv_at (κ : GSem nD τ sig → ℕ) {g : GSem nD τ sig} (hg : g ∈ (barCells ∪ scCells : Finset (GSem nD τ sig))) :
    (bigSep (barCells ∪ scCells) fun g => (cellInv ER (rd (G0of (Ins m)) (G2of (Ins m))) (κ g) g : sProp 𝕄))
      ⊢ cellInv ER (rd (G0of (Ins m)) (G2of (Ins m))) (κ g) g := bigSep_elim hg
/-- and so is the start of every barrier's round. -/
theorem reached_at (c : Dev nD) : (bigSep barCells fun g => (reached ER g 0 : sProp 𝕄)) ⊢ reached ER (barCell c) 0 :=
  bigSep_elim (Finset.mem_map_of_mem barEmb (Finset.mem_univ c))

/-- The rights to open the eight cells of device `c`. -/
def opening (c : Dev nD) : sProp 𝕄 :=
  iprop(openTok ER (send0 c) ∗ openTok ER (send1 c) ∗ openTok ER (send2 c) ∗ openTok ER (send3 c)
      ∗ openTok ER (recv0 c) ∗ openTok ER (recv1 c) ∗ openTok ER (recv2 c) ∗ openTok ER (recv3 c))

/-- The records and a device's own share make its ghost state. -/
theorem ghost_intro (κ : GSem nD τ sig → ℕ) (c : Dev nD) :
    iprop(records m κ ∗ (atPos ER (barCell c) 0 ∅ 0 ∗ opening c ∗ dutiesOf c)) ⊢ iprop(∃ K, ghost m K c) := by
  unfold records ghost invs opening
  iintro ⟨⟨#HI, #HR⟩, HaB, Ho, Hd⟩
  iexists κ
  isplitr
  · isplitr; · iapply (inv_at m κ (bar_mem c)); iexact HI
    isplitr; · iapply (inv_at m κ (xsem_mem c 0)); iexact HI
    isplitr; · iapply (inv_at m κ (xsem_mem c 1)); iexact HI
    isplitr; · iapply (inv_at m κ (xsem_mem c 2)); iexact HI
    isplitr; · iapply (inv_at m κ (xsem_mem c 3)); iexact HI
    isplitr; · iapply (inv_at m κ (xsem_mem c 4)); iexact HI
    isplitr; · iapply (inv_at m κ (xsem_mem c 5)); iexact HI
    isplitr; · iapply (inv_at m κ (xsem_mem c 6)); iexact HI
    isplitr; · iapply (inv_at m κ (xsem_mem c 7)); iexact HI
    isplitr; · iapply (inv_at m κ (bar_mem (pr c))); iexact HI
    isplitr; · iapply (inv_at m κ (xsem_mem (pr c) 4)); iexact HI
    isplitr; · iapply (inv_at m κ (xsem_mem (pr c) 5)); iexact HI
    isplitr; · iapply (inv_at m κ (xsem_mem (pr c) 6)); iexact HI
    iapply (inv_at m κ (xsem_mem (pr c) 7)); iexact HI
  isplitl [HaB]; · iexact HaB
  isplitl [Ho]; · iexact Ho
  isplitr; · iapply (reached_at (F := F) (pr c)); iexact HR
  iexact Hd

/-- The rights to open the transfer cells, dealt by devices. -/
theorem opening_eq : (bigSep scCells (fun g => (openTok ER g : sProp 𝕄))) = bigSep Finset.univ fun c : Dev nD => opening c := by
  rw [bigSep_map, bigSep_univ_prod]
  refine bigSep_congr fun c _ => ?_
  rw [bigSep_univ_eq_bigSepL [(0 : Fin 8), 1, 2, 3, 4, 5, 6, 7] (by decide) (by decide)]
  rfl

/-- Every token: the barrier's and the receive cells' to the partner, the send cells' to the device itself. -/
theorem tokens_eq : (bigSep toks fun x => (dutyTok ER x.1 x.2.1 x.2.2 : sProp 𝕄)) = bigSep Finset.univ fun c : Dev nD => dutiesOf c := by
  rw [bigSep_map, bigSep_univ_prod]
  rw [bigSep_congr (s := Finset.univ) (Ψ := fun c : Dev nD => (iprop(dutyTok ER (barCell c) 0 () ∗ dutyTok ER (recv0 c) 0 () ∗ dutyTok ER (recv1 c) 0 ()
      ∗ dutyTok ER (recv2 c) 0 () ∗ dutyTok ER (recv3 c) 0 () ∗ dutyTok ER (send0 c) 0 () ∗ dutyTok ER (send1 c) 0 () ∗ dutyTok ER (send2 c) 0 () ∗ dutyTok ER (send3 c) 0 ()) : sProp 𝕄))
    fun c _ => by
      rw [bigSep_univ_eq_bigSepL [(0 : Fin 9), 1, 2, 3, 4, 5, 6, 7, 8] (by decide) (by decide)]
      rfl]
  unfold dutiesOf
  simp only [bigSep_sep']
  rw [bigSep_univ_equiv swap (fun c : Dev nD => (dutyTok ER (barCell c) 0 () : sProp 𝕄)),
    bigSep_univ_equiv swap (fun c : Dev nD => (dutyTok ER (recv0 c) 0 () : sProp 𝕄)),
    bigSep_univ_equiv swap (fun c : Dev nD => (dutyTok ER (recv1 c) 0 () : sProp 𝕄)),
    bigSep_univ_equiv swap (fun c : Dev nD => (dutyTok ER (recv2 c) 0 () : sProp 𝕄)),
    bigSep_univ_equiv swap (fun c : Dev nD => (dutyTok ER (recv3 c) 0 () : sProp 𝕄))]
  rfl

/-! ## The launch credits -/

/-- The amount device `d`'s dues put on a semaphore of device `c`. -/
theorem tally_other (d c : Dev nD) (sm sm' : SemLoc sig) (n : ℕ) :
    tallyAt ((pr d : Thread nD τ), sm) () n ((c : Thread nD τ), sm') () = if d = pr c then (if sm' = sm then n else 0) else 0 := by
  rw [tallyAt_apply]
  by_cases h : d = pr c
  · rw [if_pos h]
    have hc : pr d = c := by rw [h, pr_pr]
    by_cases hs : sm' = sm
    · rw [if_pos hs, if_pos ⟨by rw [hs, hc], rfl⟩]
    · rw [if_neg hs, if_neg fun hh => hs (congrArg Prod.snd hh.1)]
  · rw [if_neg h, if_neg fun hh => h ?_]
    have : c = pr d := congrArg (fun g : GSem nD τ sig => g.1.1) hh.1
    rw [this, pr_pr]

/-- The amount a device owes its partner on each semaphore. -/
def due (sm : SemLoc sig) : ℕ :=
  ((((if sm = .dma (sem3 cc0_scratch8) then N3 else 0) + if sm = .dma (sem2 cc0_scratch8) then N2 else 0) + if sm = .dma (sem1 cc0_scratch8) then N1 else 0)
    + if sm = .dma (sem0 cc0_scratch8) then N0 else 0) + if sm = .reg barS then 1 else 0

/-- A device owes only to its partner. -/
theorem owed_at (d c : Dev nD) (sm : SemLoc sig) : O₀ d ((c : Thread nD τ), sm) () = if d = pr c then due sm else 0 := by
  show ((((tallyAt (recv3 (pr d)) () N3 ((c : Thread nD τ), sm) () + tallyAt (recv2 (pr d)) () N2 ((c : Thread nD τ), sm) ()) + tallyAt (recv1 (pr d)) () N1 ((c : Thread nD τ), sm) ())
    + tallyAt (recv0 (pr d)) () N0 ((c : Thread nD τ), sm) ()) + tallyAt (barCell (pr d)) () 1 ((c : Thread nD τ), sm) ()) = _
  rw [tally_other, tally_other, tally_other, tally_other, tally_other]
  by_cases h : d = pr c
  · simp only [if_pos h]; rfl
  · simp only [if_neg h]

/-- The launch credit of one semaphore of device `c`. -/
theorem launch_at (c : Dev nD) (sm : SemLoc sig) :
    tallyOn ((c : Thread nD τ), sm) (launchCredit (Pipeline.owing O₀) 0 ((c : Thread nD τ), sm)) = (tallyAt ((c : Thread nD τ), sm) () (due sm) : CellTallies nD τ sig Unit) := by
  unfold tallyAt; refine congrArg _ (Finsupp.ext fun u => ?_); cases u
  rw [Pipeline.launchCredit_owing, Finsupp.single_eq_same, Finset.sum_congr rfl fun d _ => owed_at d c sm, Finset.sum_ite_eq' Finset.univ (pr c) fun _ => due sm,
    if_pos (Finset.mem_univ _)]

/-- What a device owes its partner at the barrier. -/
theorem due_bar : due (.reg barS) = 1 := by unfold due; simp only [reduceCtorEq, if_false, if_true]
/-- What a device owes its partner at the receive semaphore of copy 0. -/
theorem due_recv0 : due (.dma (sem0 cc0_scratch8)) = N0 := by
  unfold due; rw [if_neg (by decide), if_neg (by decide), if_neg (by decide), if_pos rfl, if_neg (by decide)]; simp only [zero_add, add_zero]
/-- What a device owes its partner at the receive semaphore of copy 1. -/
theorem due_recv1 : due (.dma (sem1 cc0_scratch8)) = N1 := by
  unfold due; rw [if_neg (by decide), if_neg (by decide), if_pos rfl, if_neg (by decide), if_neg (by decide)]; simp only [zero_add, add_zero]
/-- What a device owes its partner at the receive semaphore of copy 2. -/
theorem due_recv2 : due (.dma (sem2 cc0_scratch8)) = N2 := by
  unfold due; rw [if_neg (by decide), if_pos rfl, if_neg (by decide), if_neg (by decide), if_neg (by decide)]; simp only [zero_add, add_zero]
/-- What a device owes its partner at the receive semaphore of copy 3. -/
theorem due_recv3 : due (.dma (sem3 cc0_scratch8)) = N3 := by
  unfold due; rw [if_pos rfl, if_neg (by decide), if_neg (by decide), if_neg (by decide), if_neg (by decide)]; simp only [add_zero]

/-- The launch gives each device the credits of what its partner owes it. -/
theorem creds (c : Dev nD) : (Pipeline.launchCred O₀ c : sProp 𝕄) ⊢ credits c := by
  unfold Pipeline.launchCred
  simp only [launch_at]
  refine (bigSep_subset (t := {.reg barS, .dma (sem0 cc0_scratch8), .dma (sem1 cc0_scratch8), .dma (sem2 cc0_scratch8), .dma (sem3 cc0_scratch8)}) (Finset.subset_univ _)).trans ?_
  rw [bigSep_eq_bigSepL_of_eq [.reg barS, .dma (sem0 cc0_scratch8), .dma (sem1 cc0_scratch8), .dma (sem2 cc0_scratch8), .dma (sem3 cc0_scratch8)] (by decide) (by decide)]
  show iprop(cred (tallyAt (barCell c) () (due _)) ∗ cred (tallyAt (recv0 c) () (due _)) ∗ cred (tallyAt (recv1 c) () (due _)) ∗ cred (tallyAt (recv2 c) () (due _)) ∗ cred (tallyAt (recv3 c) () (due _))) ⊢ _
  rw [due_bar, due_recv0, due_recv1, due_recv2, due_recv3]
  exact BI.Entails.refl _

/-! ## Every device's state at the start -/

/-- The barrier is the only semaphore that outlives the region. -/
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What of a device's launch holdings is not the exchange's ghost state. -/
def bundle (c : Dev nD) : sProp 𝕄 :=
  iprop(credits c ∗ (∃ r, prngReg c r) ∗ owes (c : Thread nD τ) (O₀ c) ∅)

/-- A device's shares make its state before the region. -/
theorem E_intro (κ : GSem nD τ sig → ℕ) (c : Dev nD) :
    iprop(records m κ ∗ ((atPos ER (barCell c) 0 ∅ 0 ∗ opening c ∗ dutiesOf c) ∗ bundle c)) ⊢ E m 0 c := by
  rw [E_zero]
  unfold bundle Tk
  iintro ⟨#HR, Hl, Hc, Hp, HO⟩
  isplitl [Hl Hc]
  · isplitl [Hl]
    · iapply (ghost_intro m κ c)
      isplitr; · iexact HR
      iexact Hl
    iexact Hc
  isplitl [Hp]; · iexact Hp
  iexists ∅; iexact HO

/-- A device's launch holdings, with the barrier's counter set apart. -/
theorem launch_core (c : Dev nD) :
    iprop(unscopedSems0 c ∗ owes (c : Thread nD τ) (O₀ c) ∅ ∗ Pipeline.launchCred O₀ c ∗ prngReg c (ρ c) ∗ G c)
      ⊢ (iprop(bundle c ∗ (semVal (barCell c) 0 ∗ G c)) : sProp 𝕄) := by
  rw [unscopedSems_eq]
  unfold bundle
  iintro ⟨Hs, HO, Hcr, Hp, HG⟩
  ihave Hc := (creds (F := F) c) $$ Hcr
  isplitl [Hc HO Hp]
  · isplitl [Hc]; · iexact Hc
    isplitl [Hp]; · iexists (ρ c); iexact Hp
    iexact HO
  isplitl [Hs] <;> iassumption

/-- The launch allocates every cell at once and deals each device its state. -/
theorem launch_all :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E m 0) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hcore : (bigSep Finset.univ fun c : Dev nD => iprop(unscopedSems0 c ∗ owes (c : Thread nD τ) (O₀ c) ∅ ∗ Pipeline.launchCred O₀ c ∗ prngReg c (ρ c) ∗ G c))
      ⊢ (iprop((bigSep Finset.univ fun c : Dev nD => bundle c) ∗ (bigSep Finset.univ fun c : Dev nD => semVal (barCell c) 0) ∗ bigSep Finset.univ G) : sProp 𝕄) := by
    rw [← bigSep_sep', ← bigSep_sep']
    exact bigSep_mono fun c _ => launch_core ρ c
  iintro ⟨H, -⟩
  ihave H' := hcore $$ H
  icases H' with ⟨HB, Hv, HG⟩
  ihave Hu := (show bigSep Finset.univ (G (F := F)) ⊢ BI.own (ER (launchOf barCells scCells toks)) from
    Entails.of_eq (bigSep_onFirst (F := F) (BI.own (ER (launchOf barCells scCells toks))))) $$ HG
  imod (Rounds.fund_launch ER (rd (G0of (Ins m)) (G2of (Ins m))) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop((atPos ER (barCell c) 0 ∅ 0 ∗ opening c ∗ dutiesOf c) ∗ bundle c)) fun c _ => E_intro m κ c)
  isplitr
  · unfold records
    isplitr; · iexact Hinv
    iexact Hr
  rw [bigSep_sep', bigSep_sep', bigSep_sep']
  isplitr [HB]
  · isplitl [Hat]; · iapply hat $$ Hat
    isplitl [Hopen]; · iapply (Entails.of_eq (opening_eq (F := F))) $$ Hopen
    iapply (Entails.of_eq (tokens_eq (F := F))) $$ Htok
  · iexact HB

/-! ## The run -/

/-- A semaphore that is not the region's own is the barrier. -/
theorem unscoped_eq : ∀ sm : SemLoc sig, sm.isScoped .tc = false → sm = .reg barS := by decide

set_option backward.isDefEq.respectTransparency.types false in
/-- From any memory with zero counters every weakly fair execution of @main on the 32 devices terminates; every final state
    has each device's arguments unchanged, its result at the device's output block, and every semaphore counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v28) = outOf (Ins m) c) ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (reg0 m))
    (fun c Q => by
      rewrite [main_chain c, Pipeline.Seg.run_eq_chain,
        show (segs m 𝒱₀ L lv (E m) () (pdats m) (reg0 m) c).map Pipeline.Seg.prog = [
          StableHlo.seq (hostOps0 c),
          StableHlo.seq hostOps0_1,
          StableHlo.seq hostOps0_2,
          StableHlo.seq hostOps0_3,
          StableHlo.seq hostOps0_4,
          Prog.lift (.customCall (Pipeline.entry 0) ()) ] from rfl]
      dsimp (config := { failIfUnchanged := false }) only
      exact BI.Entails.refl _)
    (fun c => by simp only [segs, Pipeline.Seg.pipes_host, Pipeline.Seg.pipes_region, Pipeline.Seg.pipes_nil]; decide) O₀ L_of_ne G u₀ hu₀
    (T₀ := fun c => iprop(StableHlo.held (c : Thread nD τ) (Pipeline.ucRefs τ sig) (V0 m c) ∗ E m 0 c))
    (Tₙ := fun c => iprop(StableHlo.held (c : Thread nD τ) (Pipeline.ucRefs τ sig) (V6 m (outs m) c) ∗ semVal (barCell c) 0))
    (hch := fun c => ⟨BI.Entails.refl _, BI.Entails.refl _, BI.Entails.refl _, BI.Entails.refl _, BI.Entails.refl _, reg0_pre m c, (reg0_post m c).trans ?_⟩)
    (hinit := ?_)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_v28) = outOf (Ins m) c) ∧ s.sem (barCell c) = 0)
    (hfin := fun c s' => ?_)
    (hQ := fun s h hs => ⟨fun c => (h c).1, sem_eq_zero hs fun c sm hsm => by
      obtain rfl := unscoped_eq sm hsm
      exact (h c).2⟩)
  · rw [E_one]
    unfold Yk
    iintro ⟨Hh, Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c)) : sProp 𝕄) := by
      rw [← bigSep_sep']
      exact bigSep_mono fun c _ => by
        rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (launch_all m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro
      have key : ∀ r : Ref sig .tc, r.isScoped = false → s'.mem.mem ((c.tc : Thread nD τ).loc r) = V6 m (outs m) c r := fun r hr =>
        h (Proc.devRef .tc r) (Finset.mem_filter.mpr ⟨StableHlo.devRef_mem_tcRefs r, fun h' => Bool.false_ne_true (hr.symm.trans h')⟩)
      exact ⟨⟨(key main_arg0 (by decide)).trans (V6_main_arg0 m (outs m) c), (key main_arg1 (by decide)).trans (V6_main_arg1 m (outs m) c),
        (key main_arg2 (by decide)).trans (V6_main_arg2 m (outs m) c), (key main_arg3 (by decide)).trans (V6_main_arg3 m (outs m) c),
        (key main_v28 (by decide)).trans (V6_v28 m c)⟩, by simpa using hb⟩
    · iexact HSI

end Cert.KernelIdeal.Moe
-- ==== Proof.Payload.lean ====
/-
  What the body's payloads compute over the extended reals, read at an index: a gather of the tokens that carry a
  position, an expert's two products with the cut at zero between them, and a scatter back by position.
-/
module

public import proofs.«01_k».proof.Proof.Values
public import Idealize.ShloMosaic.Lib.Pointwise

@[expose] public section

set_option maxRecDepth 16384

noncomputable section

namespace Cert.KernelIdeal.Moe

open Cert.KernelIdeal Cert.KernelIdeal.Gen
open Idealize.ShloMosaic Idealize.ShloMosaic.TcCoe

/-- One if the word `w` spells the number `r`, else zero. -/
def hot (w : BitVec 32) (r : Nat) : EReal := if w = BitVec.ofNat 32 r then 1 else 0

/-- An expert's row: the token's row times the first matrix, cut at zero, times the second. -/
def ffn (A : Fin 1024 → Fin 2048 → EReal) (B : Fin 2048 → Fin 1024 → EReal) (v : Fin 1024 → EReal) (d : Fin 1024) : EReal :=
  ∑ f : Fin 2048, max (∑ k : Fin 1024, v k * A k f) 0 * B f d

/-- The compared word, widened and read as a number, is one where the words agree. -/
theorem sitofp_hot (w : BitVec 32) (r : Nat) :
    (FloatOps.sitofp (F := Ideal) FTy.f32 (BitVec.setWidth 32 (IntOp.cmpi CmpIPredicate.eq (BitVec.ofNat 32 r) w)) : EReal) = hot w r := by
  unfold hot
  by_cases h : w = BitVec.ofNat 32 r
  · rw [if_pos h, h]; simp [IntOp.cmpi, FloatOps.sitofp]
  · rw [if_neg h]
    have e : (BitVec.ofNat 32 r == w) = false := beq_false_of_ne (Ne.symm h)
    simp [IntOp.cmpi, FloatOps.sitofp, e]

/-- The same, compared the other way round. -/
theorem sitofp_hot' (w : BitVec 32) (r : Nat) :
    (FloatOps.sitofp (F := Ideal) FTy.f32 (BitVec.setWidth 32 (IntOp.cmpi CmpIPredicate.eq w (BitVec.ofNat 32 r))) : EReal) = hot w r := by
  rw [← sitofp_hot]
  refine congrArg (fun b => FloatOps.sitofp (F := Ideal) FTy.f32 (BitVec.setWidth 32 b)) ?_
  simp only [IntOp.cmpi]
  exact congrArg BitVec.ofBool (Bool.beq_comm)

/-! ## Gathers -/

/-- The four gathers: row `r` is the sum of the tokens whose position is `r`. -/
theorem pay5_apply (q : Vec Ideal S1x1x1024 .i32) (x : Vec Ideal S1024x1024 .bf16) (r : Fin 320) (d : Fin 1024) :
    k0_pay5 q x (ix2 r d) = ∑ t : Fin 1024, hot (q (ix3 0 0 t)) r * x (ix2 t d) := by
  pointwise [k0_pay5]; exact Finset.sum_congr rfl fun t _ => by rw [sitofp_hot]
/-- The gather for the device's second expert. -/
theorem pay7_apply (q : Vec Ideal S1x1x1024 .i32) (x : Vec Ideal S1024x1024 .bf16) (r : Fin 320) (d : Fin 1024) :
    k0_pay7 q x (ix2 r d) = ∑ t : Fin 1024, hot (q (ix3 0 0 t)) r * x (ix2 t d) := by
  pointwise [k0_pay7]; exact Finset.sum_congr rfl fun t _ => by rw [sitofp_hot]
/-- The gather for the partner's first expert. -/
theorem pay2_apply (q : Vec Ideal S1x1x1024 .i32) (x : Vec Ideal S1024x1024 .bf16) (r : Fin 320) (d : Fin 1024) :
    k0_pay2 q x (ix3 0 r d) = ∑ t : Fin 1024, hot (q (ix3 0 0 t)) r * x (ix2 t d) := by
  pointwise [k0_pay2]; exact Finset.sum_congr rfl fun t _ => by rw [sitofp_hot]
/-- The gather for the partner's second expert. -/
theorem pay4_apply (q : Vec Ideal S1x1x1024 .i32) (x : Vec Ideal S1024x1024 .bf16) (r : Fin 320) (d : Fin 1024) :
    k0_pay4 (k0_pay3 q x) (ix3 0 r d) = ∑ t : Fin 1024, hot (q (ix3 0 0 t)) r * x (ix2 t d) := by
  pointwise [k0_pay4, k0_pay3]; exact Finset.sum_congr rfl fun t _ => by rw [sitofp_hot]

/-! ## An expert's rows -/

/-- The five products with the two matrices: each row goes through the expert by itself. -/
theorem pay6_apply (v : FVec Ideal S320x1024 .f32) (A : Vec Ideal S1x1024x2048 .f32) (B : Vec Ideal S1x2048x1024 .f32) (r : Fin 320) (d : Fin 1024) :
    k0_pay6 v A B (ix2 r d) = ffn (fun k f => A (ix3 0 k f)) (fun f d => B (ix3 0 f d)) (fun k => v (ix2 r k)) d := by
  pointwise [k0_pay6, ffn]
/-- The second own expert's rows. -/
theorem pay8_apply (v : FVec Ideal S320x1024 .f32) (A : Vec Ideal S1x1024x2048 .f32) (B : Vec Ideal S1x2048x1024 .f32) (r : Fin 320) (d : Fin 1024) :
    k0_pay8 v A B (ix2 r d) = ffn (fun k f => A (ix3 0 k f)) (fun f d => B (ix3 0 f d)) (fun k => v (ix2 r k)) d := by
  pointwise [k0_pay8, ffn]
/-- The first expert's rows for the partner. -/
theorem pay9_apply (v : Vec Ideal S1x320x1024 .bf16) (A : Vec Ideal S1x1024x2048 .f32) (B : Vec Ideal S1x2048x1024 .f32) (r : Fin 320) (d : Fin 1024) :
    k0_pay9 v A B (ix3 0 r d) = ffn (fun k f => A (ix3 0 k f)) (fun f d => B (ix3 0 f d)) (fun k => v (ix3 0 r k)) d := by
  pointwise [k0_pay9, ffn]
/-- The second expert's rows for the partner, first half; -/
theorem pay10_apply (v : Vec Ideal S1x160x1024 .bf16) (A : Vec Ideal S1x1024x2048 .f32) (B : Vec Ideal S1x2048x1024 .f32) (r : Fin 160) (d : Fin 1024) :
    k0_pay10 v A B (ix3 0 r d) = ffn (fun k f => A (ix3 0 k f)) (fun f d => B (ix3 0 f d)) (fun k => v (ix3 0 r k)) d := by
  pointwise [k0_pay10, ffn]
/-- and the other half. -/
theorem pay11_apply (v : Vec Ideal S1x160x1024 .bf16) (A : Vec Ideal S1x1024x2048 .f32) (B : Vec Ideal S1x2048x1024 .f32) (r : Fin 160) (d : Fin 1024) :
    k0_pay11 v A B (ix3 0 r d) = ffn (fun k f => A (ix3 0 k f)) (fun f d => B (ix3 0 f d)) (fun k => v (ix3 0 r k)) d := by
  pointwise [k0_pay11, ffn]

/-! ## Scatters -/

/-- The own experts' scatter: each token takes the rows at its two positions. -/
theorem pay12_apply (y y' : FVec Ideal S320x1024 .bf16) (w w' : Vec Ideal S1x1024x1 .i32) (t d : Fin 1024) :
    k0_pay12 y y' w w' (ix2 t d) = (∑ r : Fin 320, hot (w (ix3 0 t 0)) r * y (ix2 r d)) + ∑ r : Fin 320, hot (w' (ix3 0 t 0)) r * y' (ix2 r d) := by
  pointwise [k0_pay12]
  exact congrArg₂ (· + ·) (Finset.sum_congr rfl fun r _ => by rw [sitofp_hot']) (Finset.sum_congr rfl fun r _ => by rw [sitofp_hot'])
/-- The scatter of the rows the partner's first expert served. -/
theorem pay13_apply (w : Vec Ideal S1x1024x1 .i32) (y : Vec Ideal S1x320x1024 .bf16) (t d : Fin 1024) :
    k0_pay13 w y (ix2 t d) = ∑ r : Fin 320, hot (w (ix3 0 t 0)) r * y (ix3 0 r d) := by
  pointwise [k0_pay13]; exact Finset.sum_congr rfl fun r _ => by rw [sitofp_hot']
/-- The scatter's matrix of ones and zeros for the partner's second expert. -/
theorem pay14_apply (w : Vec Ideal S1x1024x1 .i32) (t : Fin 1024) (r : Fin 320) : k0_pay14 w (ix2 t r) = hot (w (ix3 0 t 0)) r := by
  pointwise [k0_pay14]; rw [sitofp_hot']
/-- The scatter of that expert's first half. -/
theorem pay15_apply (p : FVec Ideal S1024x320 .bf16) (y : Vec Ideal S1x160x1024 .bf16) (t d : Fin 1024) :
    k0_pay15 p y (ix2 t d) = ∑ r : Fin 160, p (ix2 t ⟨r.val, by omega⟩) * y (ix3 0 r d) := by
  pointwise [k0_pay15]
/-- The output: the own share, the partner's first expert's, and the two halves of its second's. -/
theorem pay1_apply (a : FVec Ideal S1024x1024 .f32) (p : FVec Ideal S1024x320 .bf16) (b : FVec Ideal S1024x1024 .f32)
    (o : Vec Ideal S1024x1024 .f32) (y : Vec Ideal S1x160x1024 .bf16) (t d : Fin 1024) :
    k0_pay1 a p b o y (ix2 t d) = o (ix2 t d) + a (ix2 t d) + b (ix2 t d) + ∑ r : Fin 160, p (ix2 t ⟨160 + r.val, by omega⟩) * y (ix3 0 r d) := by
  pointwise [k0_pay1]

end Cert.KernelIdeal.Moe
end
-- ==== Proof.Counts.lean ====
/-
  Counting words in a vector: how many of the first entries are a given word, and the running count a program takes
  with a window sum.
-/
module

public import Idealize.ShloMosaic.Lib.Routing.OpsOne

@[expose] public section

namespace Cert.Counts

open Idealize.ShloMosaic Idealize.ShloMosaic.ValueIdx Idealize.ShloMosaic.Routing

/-- One where entry `i` of `a` is the word `k`, else zero; zero past the end. -/
def isAt {N : Nat} (a : Fin N → BitVec 32) (k : BitVec 32) (i : Nat) : Nat := if h : i < N then (if a ⟨i, h⟩ = k then 1 else 0) else 0

/-- How many of the first `n` entries of `a` are the word `k`. -/
def cnt {N : Nat} (a : Fin N → BitVec 32) (k : BitVec 32) (n : Nat) : Nat := ((List.range n).map (isAt a k)).sum

variable {N : Nat} (a : Fin N → BitVec 32) (k : BitVec 32)

/-- The count one entry further. -/
theorem cnt_succ (n : Nat) : cnt a k (n + 1) = cnt a k n + isAt a k n := by
  unfold cnt; rw [List.range_succ, List.map_append, List.sum_append, List.map_singleton, List.sum_singleton]

/-- The count passes an entry that is the word: it grows by one. -/
theorem cnt_hit (t : Fin N) (h : a t = k) : cnt a k (t.val + 1) = cnt a k t.val + 1 := by
  rw [cnt_succ]; unfold isAt; rw [dif_pos t.isLt, if_pos h]

/-- The count never falls. -/
theorem cnt_mono {n n' : Nat} (h : n ≤ n') : cnt a k n ≤ cnt a k n' := by
  induction h with
  | refl => exact Nat.le_refl _
  | step _ ih => rw [cnt_succ]; exact Nat.le_trans ih (Nat.le_add_right _ _)

/-- The count is at most the number of entries counted. -/
theorem cnt_le (n : Nat) : cnt a k n ≤ n := by
  induction n with
  | zero => exact Nat.le_refl 0
  | succ n ih =>
    have : isAt a k n ≤ 1 := by unfold isAt; split <;> [split; skip] <;> omega
    rw [cnt_succ]; omega

/-- An entry that is the word has a number below the whole count. -/
theorem cnt_lt (t : Fin N) (h : a t = k) : cnt a k t.val < cnt a k N := by
  have h1 := cnt_hit a k t h
  have h2 := cnt_mono a k (show t.val + 1 ≤ N from t.isLt)
  omega

/-- Two entries that are the word have different numbers. -/
theorem cnt_inj (t t' : Fin N) (h : a t = k) (h' : a t' = k) (e : cnt a k t.val = cnt a k t'.val) : t = t' := by
  have h1 := cnt_hit a k t h
  have h2 := cnt_hit a k t' h'
  rcases Nat.lt_trichotomy t.val t'.val with l | l | l
  · have := cnt_mono a k (show t.val + 1 ≤ t'.val from l); omega
  · exact Fin.ext l
  · have := cnt_mono a k (show t'.val + 1 ≤ t.val from l); omega

/-- The window sum along the rows of a matrix, at row `r`, is the window sum of that row alone. -/
theorem window_row {R N M : Nat} (x : IVec (shape2 R N) 32) (init : IVec shape0 32)
    (h : (shape2 R N).ReduceWindows (![1, N] : Fin 2 → Nat) ![1, 1] ![0, M] ![0, 0] (shape2 R N))
    (h1 : (shape2 1 N).ReduceWindows (![1, N] : Fin 2 → Nat) ![1, 1] ![0, M] ![0, 0] (shape2 1 N)) (hu : 0 < shape0.numel) (r : Fin R) (j : Fin N) :
    Host.reduceWindow IntOp.addi ![1, N] ![1, 1] ![0, M] ![0, 0] x init h hu (ix2 r j)
      = Host.reduceWindow IntOp.addi ![1, N] ![1, 1] ![0, M] ![0, 0] (fun i : (shape2 1 N).Idx => x (ix2 r (i 1))) init h1 hu (ix2 (0 : Fin 1) j) := by
  unfold Host.reduceWindow
  refine congrArg (fun f => List.foldl f (init (Shape.Idx.first hu)) (List.finRange (shape2 1 N).numel)) (funext fun s => funext fun n => ?_)
  have hw0 : ((shape2 1 N).rowMajor.symm n 0).val = 0 := Nat.lt_one_iff.mp ((shape2 1 N).rowMajor.symm n 0).isLt
  refine congrArg (IntOp.addi s) ?_
  have hc : (∀ a : Fin 2, (![0, M] : Fin 2 → Nat) a ≤ (ix2 r j a).val * (![1, 1] : Fin 2 → Nat) a + ((shape2 1 N).rowMajor.symm n a).val
        ∧ (ix2 r j a).val * (![1, 1] : Fin 2 → Nat) a + ((shape2 1 N).rowMajor.symm n a).val - (![0, M] : Fin 2 → Nat) a < (shape2 R N).size a)
      ↔ (∀ a : Fin 2, (![0, M] : Fin 2 → Nat) a ≤ (ix2 (0 : Fin 1) j a).val * (![1, 1] : Fin 2 → Nat) a + ((shape2 1 N).rowMajor.symm n a).val
        ∧ (ix2 (0 : Fin 1) j a).val * (![1, 1] : Fin 2 → Nat) a + ((shape2 1 N).rowMajor.symm n a).val - (![0, M] : Fin 2 → Nat) a < (shape2 1 N).size a) := by
    have hr := r.isLt
    rw [Fin.forall_fin_two, Fin.forall_fin_two]
    refine and_congr ⟨fun _ => ?_, fun _ => ?_⟩ Iff.rfl
    · show 0 ≤ 0 * 1 + ((shape2 1 N).rowMajor.symm n 0).val ∧ 0 * 1 + ((shape2 1 N).rowMajor.symm n 0).val - 0 < 1
      rw [hw0]; omega
    · show 0 ≤ r.val * 1 + ((shape2 1 N).rowMajor.symm n 0).val ∧ r.val * 1 + ((shape2 1 N).rowMajor.symm n 0).val - 0 < R
      rw [hw0]; omega
  by_cases hin : ∀ a : Fin 2, (![0, M] : Fin 2 → Nat) a ≤ (ix2 r j a).val * (![1, 1] : Fin 2 → Nat) a + ((shape2 1 N).rowMajor.symm n a).val
        ∧ (ix2 r j a).val * (![1, 1] : Fin 2 → Nat) a + ((shape2 1 N).rowMajor.symm n a).val - (![0, M] : Fin 2 → Nat) a < (shape2 R N).size a
  · refine (dif_pos hin).trans (Eq.trans ?_ (dif_pos (hc.mp hin)).symm)
    refine congrArg x (funext fun a => Fin.ext ?_)
    match a with
    | ⟨0, _⟩ => show r.val * 1 + ((shape2 1 N).rowMajor.symm n 0).val - 0 = r.val; rw [hw0]; omega
    | ⟨1, _⟩ => rfl
  · refine (dif_neg hin).trans (Eq.trans ?_ (dif_neg fun q => hin (hc.mpr q)).symm)
    rfl

/-- The running count along the rows of a matrix whose row `r` marks the entries of `a` that are `k`. -/
theorem running {R N M : Nat} (hM : M + 1 = N) (x : IVec (shape2 R N) 32) (init : IVec shape0 32) (hinit : init ix0 = 0#32)
    (h : (shape2 R N).ReduceWindows (![1, N] : Fin 2 → Nat) ![1, 1] ![0, M] ![0, 0] (shape2 R N))
    (h1 : (shape2 1 N).ReduceWindows (![1, N] : Fin 2 → Nat) ![1, 1] ![0, M] ![0, 0] (shape2 1 N)) (hu : 0 < shape0.numel) (r : Fin R) (j : Fin N)
    (a : Fin N → BitVec 32) (k : BitVec 32) (hx : ∀ i : Fin N, x (ix2 r i) = if a i = k then 1#32 else 0#32) :
    Host.reduceWindow IntOp.addi ![1, N] ![1, 1] ![0, M] ![0, 0] x init h hu (ix2 r j) = BitVec.ofNat 32 (cnt a k (j.val + 1)) := by
  rw [window_row x init h h1 hu r j]
  refine cumsum2 hM _ (isAt a k) (fun i => ?_) init hinit h1 hu j
  show x (ix2 r i) = _
  rw [hx]; unfold isAt; rw [dif_pos i.isLt]
  show _ = BitVec.ofNat 32 (if a i = k then 1 else 0)
  split <;> rfl

/-- The sum of a vector that marks the entries of `a` that are `k` is their count. -/
theorem total {N : Nat} (x : IVec (shape1 N) 32) (a : Fin N → BitVec 32) (k : BitVec 32) (hx : ∀ i : Fin N, x (ix1 i) = if a i = k then 1#32 else 0#32)
    (h : (shape1 N).ReducesTo [0] shape0) (hu : 0 < shape0.numel) :
    Host.reduce IntOp.addi x (constantI shape0 32 0#32) h hu ix0 = BitVec.ofNat 32 (cnt a k N) := by
  refine reduce_sum x (isAt a k) (fun i => ?_) h hu
  rw [hx]; unfold isAt; rw [dif_pos i.isLt]
  show _ = BitVec.ofNat 32 (if a i = k then 1 else 0)
  split <;> rfl

end Cert.Counts
-- ==== Proof.Exchange.lean ====
/-
  The output block over the extended reals, when every expert's tokens fit its rows: token by token, the row of the
  expert that the token is assigned to.
-/
module

public import proofs.«01_k».proof.Proof.Payload
public import proofs.«01_k».proof.Proof.Counts
public import Idealize.ShloMosaic.Lib.Pipeline.ReadBack

@[expose] public section

set_option maxRecDepth 16384

noncomputable section

namespace Cert.KernelIdeal.Moe

open Cert.KernelIdeal Cert.KernelIdeal.Gen Cert.Counts
open Idealize.ShloMosaic Idealize.ShloMosaic.TcCoe

/-! ## The rows sent and served, read at an index -/

/-- An index into the buffer's lower half, as one of the buffer; -/
theorem idx_rLo (r : Fin 320) (d : Fin 1024) : rLo.toLoadRect.idx (ix3 0 r d) = (ix3 (0 : Fin 2) r d : S2x320x1024.Idx) := by
  pointwise
/-- and into its upper half. -/
theorem idx_rUp (r : Fin 320) (d : Fin 1024) : rUp.toLoadRect.idx (ix3 0 r d) = (ix3 (1 : Fin 2) r d : S2x320x1024.Idx) := by
  pointwise

/-- A store over a rectangle that an index lies outside of leaves the element there as it was. -/
theorem canon_skip (r : Rect S2x320x1024) (w : r.shape.Idx → Elt Ideal .bf16) (L : List (View.Piece (Elt Ideal) S2x320x1024 .bf16)) (y : S2x320x1024.Idx)
    (h : y ∉ r.set) : View.canon (Val := Elt Ideal) (⟨r, w⟩ :: L) y = View.canon (Val := Elt Ideal) L y := View.canon_cons_of_not_mem ⟨r, w⟩ L h

/-- The lower half lies outside the upper one, -/
theorem not_up_lo (j : rLo.shape.Idx) : rLo.toLoadRect.idx j ∉ rUp.set := LoadRect.idx_not_mem_of_disj (by decide) j
/-- outside the last quarter -/
theorem not_hi_lo (j : rLo.shape.Idx) : rLo.toLoadRect.idx j ∉ rHi.set := LoadRect.idx_not_mem_of_disj (by decide) j
/-- and outside the third; -/
theorem not_mid_lo (j : rLo.shape.Idx) : rLo.toLoadRect.idx j ∉ rMid.set := LoadRect.idx_not_mem_of_disj (by decide) j
/-- the third lies outside the last. -/
theorem not_hi_mid (j : rMid.shape.Idx) : rMid.toLoadRect.idx j ∉ rHi.set := LoadRect.idx_not_mem_of_disj (by decide) j

/-- The rows sent to the partner's first expert gather this device's tokens at their positions in its third row. -/
theorem sent_at_lo (I : In Ideal) (r : Fin 320) (d : Fin 1024) :
    sent I (ix3 0 r d) = ∑ t : Fin 1024, hot (I.pq (ix3 2 0 t)) r * I.x (ix2 t d) := by
  rw [← idx_rLo]
  unfold sent
  rw [canon_skip rUp _ _ _ (not_up_lo _)]
  refine (View.canon_cons_emb rLo _ _ _).trans ?_
  rw [pay2_apply]
  exact Finset.sum_congr rfl fun t _ => by pointwise
/-- Those sent to its second gather them at their positions in the fourth. -/
theorem sent_at_up (I : In Ideal) (r : Fin 320) (d : Fin 1024) :
    sent I (ix3 1 r d) = ∑ t : Fin 1024, hot (I.pq (ix3 3 0 t)) r * I.x (ix2 t d) := by
  rw [← idx_rUp]
  unfold sent
  refine (View.canon_cons_emb rUp _ _ _).trans ?_
  rw [pay4_apply]
  exact Finset.sum_congr rfl fun t _ => by pointwise

/-- The matrices of a device's expert `e`. -/
abbrev up (I : In Ideal) (e : Fin 2) (k : Fin 1024) (f : Fin 2048) : EReal := I.W1 (ix3 e k f)
/-- The second matrix of a device's expert `e`. -/
abbrev down (I : In Ideal) (e : Fin 2) (f : Fin 2048) (d : Fin 1024) : EReal := I.W2 (ix3 e f d)

/-- The rows served: the first expert's, -/
theorem served_at_lo (I : In Ideal) (R : S2x320x1024.Idx → Elt Ideal .bf16) (r : Fin 320) (d : Fin 1024) :
    View.ld (served I R) rLo (ix3 0 r d) = ffn (up I 0) (down I 0) (fun k => R (ix3 0 r k)) d := by
  show View.canon _ (rLo.toLoadRect.idx (ix3 0 r d)) = _
  rw [canon_skip rHi _ _ _ (not_hi_lo _),
    canon_skip rMid _ _ _ (not_mid_lo _)]
  refine (View.canon_cons_emb rLo _ _ _).trans ?_
  unfold pay9
  rw [pay9_apply]
  pointwise [ffn]
/-- the second expert's first half, -/
theorem served_at_mid (I : In Ideal) (R : S2x320x1024.Idx → Elt Ideal .bf16) (r : Fin 160) (d : Fin 1024) :
    View.ld (served I R) rMid (ix3 0 r d) = ffn (up I 1) (down I 1) (fun k => R (ix3 1 ⟨r.val, by omega⟩ k)) d := by
  show View.canon _ (rMid.toLoadRect.idx (ix3 0 r d)) = _
  rw [canon_skip rHi _ _ _ (not_hi_mid _)]
  refine (View.canon_cons_emb rMid _ _ _).trans ?_
  unfold pay10
  rw [pay10_apply]
  pointwise [ffn]
/-- and its second half. -/
theorem served_at_hi (I : In Ideal) (R : S2x320x1024.Idx → Elt Ideal .bf16) (r : Fin 160) (d : Fin 1024) :
    View.ld (served I R) rHi (ix3 0 r d) = ffn (up I 1) (down I 1) (fun k => R (ix3 1 ⟨160 + r.val, by omega⟩ k)) d := by
  show View.canon _ (rHi.toLoadRect.idx (ix3 0 r d)) = _
  refine (View.canon_cons_emb rHi _ _ _).trans ?_
  unfold pay11
  rw [pay11_apply]
  pointwise [ffn]

/-! ## There and back by position -/

/-- The position of token `t` among the tokens of expert `k`, as a word: all ones for a token of another expert. -/
def posW (a : Fin 1024 → BitVec 32) (k : BitVec 32) (t : Fin 1024) : BitVec 32 := if a t = k then BitVec.ofNat 32 (cnt a k t.val) else 4294967295#32

variable (a : Fin 1024 → BitVec 32) (k : BitVec 32)

/-- A token's position is the number `r` only if the token is the expert's and `r` others came before it. -/
theorem posW_eq {t : Fin 1024} {r : Nat} (hr : r < 1024) (h : posW a k t = BitVec.ofNat 32 r) : a t = k ∧ cnt a k t.val = r := by
  have ht := t.isLt
  have hc := cnt_le a k t.val
  unfold posW at h
  split at h
  · next e =>
    have := congrArg BitVec.toNat h
    rw [BitVec.toNat_ofNat, BitVec.toNat_ofNat, Nat.mod_eq_of_lt (by omega), Nat.mod_eq_of_lt (by omega)] at this
    exact ⟨e, this⟩
  · have := congrArg BitVec.toNat h
    rw [BitVec.toNat_ofNat, BitVec.toNat_ofNat, Nat.mod_eq_of_lt (by omega), Nat.mod_eq_of_lt (by omega)] at this
    omega

/-- A word that does not spell the number gives zero; -/
theorem hot_ne {w : BitVec 32} {r : Nat} (h : w ≠ BitVec.ofNat 32 r) : hot w r = 0 := if_neg h
/-- one that does gives one. -/
theorem hot_eq {w : BitVec 32} {r : Nat} (h : w = BitVec.ofNat 32 r) : hot w r = 1 := if_pos h

/-- Gathering at a token's own position picks that token. -/
theorem gather_pos (t : Fin 1024) (ht : a t = k) (r : Nat) (hr : cnt a k t.val = r) (v : Fin 1024 → EReal) :
    ∑ t' : Fin 1024, hot (posW a k t') r * v t' = v t := by
  have hlt : r < 1024 := by have := cnt_le a k t.val; have := t.isLt; omega
  rw [Finset.sum_eq_single t, hot_eq (by unfold posW; rw [if_pos ht, hr]), one_mul]
  · intro t' _ hne
    rw [hot_ne, zero_mul]
    intro h
    obtain ⟨h1, h2⟩ := posW_eq a k hlt h
    exact hne (cnt_inj a k t' t h1 ht (h2.trans hr.symm))
  · intro h; exact absurd (Finset.mem_univ _) h

/-- Scattering by position: a token of the expert takes the row at its position, another takes nothing. -/
theorem scatter_pos (hfit : cnt a k 1024 ≤ 320) (t : Fin 1024) (y : Fin 320 → EReal) (Y : EReal)
    (hy : a t = k → ∀ r : Fin 320, cnt a k t.val = r.val → y r = Y) :
    ∑ r : Fin 320, hot (posW a k t) r * y r = if a t = k then Y else 0 := by
  by_cases ht : a t = k
  · have hlt : cnt a k t.val < 320 := lt_of_lt_of_le (cnt_lt a k t ht) hfit
    rw [if_pos ht, Finset.sum_eq_single ⟨cnt a k t.val, hlt⟩, hot_eq (by unfold posW; rw [if_pos ht]), one_mul]
    · exact hy ht _ rfl
    · intro r _ hne
      rw [hot_ne, zero_mul]
      intro h
      exact hne (Fin.ext (posW_eq a k (by omega) h).2.symm)
    · intro h; exact absurd (Finset.mem_univ _) h
  · rw [if_neg ht]
    refine Finset.sum_eq_zero fun r _ => ?_
    rw [hot_ne, zero_mul]
    intro h
    exact ht (posW_eq a k (by omega) h).1

/-- Out to an expert's rows, through the expert, and back: the token's own row, if it is the expert's. -/
theorem there_and_back (hfit : cnt a k 1024 ≤ 320) (A : Fin 1024 → Fin 2048 → EReal) (B : Fin 2048 → Fin 1024 → EReal)
    (x : Fin 1024 → Fin 1024 → EReal) (t d : Fin 1024) :
    ∑ r : Fin 320, hot (posW a k t) r * ffn A B (fun j => ∑ t' : Fin 1024, hot (posW a k t') r * x t' j) d = if a t = k then ffn A B (x t) d else 0 :=
  scatter_pos a k hfit t _ _ fun ht r hr => congrArg (fun v => ffn A B v d) (funext fun j => gather_pos a k t ht r.val hr fun t' => x t' j)

/-! ## The output block -/

/-- With positions by the four experts `ks`, all within the rows, the output at a token is the sum over the four experts
    of the expert's row where the token is assigned to it. -/
theorem outBlock_apply (I I' : In Ideal) (ks : Fin 4 → BitVec 32) (hfit : ∀ j, cnt a (ks j) 1024 ≤ 320)
    (hq : ∀ j t, I.pq (ix3 j 0 t) = posW a (ks j) t) (hc : ∀ j t, I.pc (ix3 j t 0) = posW a (ks j) t) (t d : Fin 1024) :
    outBlock I (served I' (sent I)) (ix2 t d)
      = (if a t = ks 0 then ffn (up I 0) (down I 0) (fun j => I.x (ix2 t j)) d else 0)
      + (if a t = ks 1 then ffn (up I 1) (down I 1) (fun j => I.x (ix2 t j)) d else 0)
      + (if a t = ks 2 then ffn (up I' 0) (down I' 0) (fun j => I.x (ix2 t j)) d else 0)
      + (if a t = ks 3 then ffn (up I' 1) (down I' 1) (fun j => I.x (ix2 t j)) d else 0) := by
  have e0 := there_and_back a (ks 0) (hfit 0) (up I 0) (down I 0) (fun t j => I.x (ix2 t j)) t d
  have e1 := there_and_back a (ks 1) (hfit 1) (up I 1) (down I 1) (fun t j => I.x (ix2 t j)) t d
  have e2 := there_and_back a (ks 2) (hfit 2) (up I' 0) (down I' 0) (fun t j => I.x (ix2 t j)) t d
  have e3 := there_and_back a (ks 3) (hfit 3) (up I' 1) (down I' 1) (fun t j => I.x (ix2 t j)) t d
  rw [← e0, ← e1, ← e2, ← e3, Fin.sum_univ_two_halves 160 160 rfl (fun r : Fin 320 => hot (posW a (ks 3) t) r * _)]
  unfold outBlock ownPart
  rw [pay1_apply, pay12_apply, pay13_apply, pay15_apply]
  have hw0 : View.ld I.pc cB0 (ix3 0 t 0) = I.pc (ix3 0 t 0) := by pointwise
  have hw1 : View.ld I.pc cB1 (ix3 0 t 0) = I.pc (ix3 1 t 0) := by pointwise
  have hw2 : View.ld I.pc cB2 (ix3 0 t 0) = I.pc (ix3 2 t 0) := by pointwise
  have hw3 : View.ld I.pc cB3 (ix3 0 t 0) = I.pc (ix3 3 t 0) := by pointwise
  have hq0 : ∀ t, View.ld I.pq qB0 (ix3 0 0 t) = I.pq (ix3 0 0 t) := fun t => by pointwise
  have hq1 : ∀ t, View.ld I.pq qB1 (ix3 0 0 t) = I.pq (ix3 1 0 t) := fun t => by pointwise
  have hx : ∀ t k, View.ld I.x xB (ix2 t k) = I.x (ix2 t k) := fun t k => by pointwise
  have ha0 : ∀ k f, View.ld I.W1 u1B0 (ix3 0 k f) = up I 0 k f := fun k f => by pointwise
  have ha1 : ∀ k f, View.ld I.W1 u1B1 (ix3 0 k f) = up I 1 k f := fun k f => by pointwise
  have hb0 : ∀ f d, View.ld I.W2 u2B0 (ix3 0 f d) = down I 0 f d := fun f d => by pointwise
  have hb1 : ∀ f d, View.ld I.W2 u2B1 (ix3 0 f d) = down I 1 f d := fun f d => by pointwise
  simp only [hw0, hw1, hw2, hw3, hq0, hq1, hx, ha0, ha1, hb0, hb1, hc, pay14_apply, pay6_apply, pay8_apply, pay5_apply, pay7_apply, served_at_lo, served_at_mid, served_at_hi, sent_at_lo, sent_at_up, hq]
  exact add_assoc _ _ _

end Cert.KernelIdeal.Moe
end
-- ==== Proof.Positions.lean ====
/-
  The positions the program computes on each device before the exchange: along the row of each expert it may serve or
  send to, the running count of that expert's tokens, less one.
-/
module

public import proofs.«01_k».proof.Proof.Exchange
public import proofs.«01_k».proof.Proof.Region

@[expose] public section

set_option maxRecDepth 16384

noncomputable section

namespace Cert.KernelIdeal.Moe

open Cert.KernelIdeal Cert.KernelIdeal.Gen Cert.Counts
open Idealize.ShloMosaic Idealize.ShloMosaic.TcCoe Idealize.ShloMosaic.StableHlo

variable (m : (ℓ : Loc nD τ sig) → Buf (Elt Ideal) ℓ)

/-- The experts of device `c` in the order of its rows: its own two, then its partner's. -/
def expert (c : Dev nD) (j : Fin 4) : Nat := ![2 * (c.val / 16), 2 * (c.val / 16) + 1, 2 * (1 - c.val / 16), 2 * (1 - c.val / 16) + 1] j

/-- The tokens in the narrower float type. -/
theorem V1_v5 (c : Dev nD) : V1 m c main_v5 = truncf (F := Ideal) .bf16 (m ((c.tc : Thread nD τ).loc main_arg0)) bitsLt_bf16_f32 := by
  after_results_simp <;> rfl
/-- The device's first mesh coordinate, as the program computes it; -/
theorem coord_word : ∀ c : Dev nD, (id (Host.remui (Host.divui (constantI S_ 32 c.word) (constantI S_ 32 16#32)) (constantI S_ 32 2#32)) : IVec S_ 32) ix0
    = BitVec.ofNat 32 (c.val / 16) := by decide
/-- and the four experts' numbers from it. -/
theorem expert0_word : ∀ c : Dev nD, IntOp.muli 2#32 (BitVec.ofNat 32 (c.val / 16)) = BitVec.ofNat 32 (expert c 0) := by decide
/-- The program's word for the device's second expert. -/
theorem expert1_word : ∀ c : Dev nD, IntOp.addi (IntOp.muli 2#32 (BitVec.ofNat 32 (c.val / 16))) 1#32 = BitVec.ofNat 32 (expert c 1) := by decide
/-- The program's word for the device's third expert. -/
theorem expert2_word : ∀ c : Dev nD, IntOp.muli 2#32 (IntOp.subi 1#32 (BitVec.ofNat 32 (c.val / 16))) = BitVec.ofNat 32 (expert c 2) := by decide
/-- The program's word for the device's fourth expert. -/
theorem expert3_word : ∀ c : Dev nD, IntOp.addi (IntOp.muli 2#32 (IntOp.subi 1#32 (BitVec.ofNat 32 (c.val / 16)))) 1#32 = BitVec.ofNat 32 (expert c 3) := by decide

/-- Device `c`'s assignment of its tokens, and the words of its four experts. -/
def asg (c : Dev nD) (t : Fin 1024) : BitVec 32 := m ((c.tc : Thread nD τ).loc main_arg1) (ix1 t)
/-- The words of device `c`'s four experts. -/
def expW (c : Dev nD) (j : Fin 4) : BitVec 32 := BitVec.ofNat 32 (expert c j)

/-- The table of assignments: which tokens are which expert's. -/
theorem V1_v20 (c : Dev nD) (j : Fin 4) (t : Fin 1024) : V1 m c main_v20 (ix2 j t) = IntOp.cmpi .eq (asg m c t) (expW c j) := by
  after_results_simp
  pointwise
  fin_vals j with hk
  all_goals simp only [hk, Nat.reduceSub, Nat.reduceLT, ↓reduceDIte]
  all_goals after_results_simp
  all_goals pointwise
  all_goals rw [coord_word]
  · obtain rfl : j = 0 := Fin.ext hk
    rw [expert0_word]; rfl
  · obtain rfl : j = 1 := Fin.ext hk
    rw [expert1_word]; rfl
  · obtain rfl : j = 2 := Fin.ext hk
    rw [expert2_word]; rfl
  · obtain rfl : j = 3 := Fin.ext hk
    rw [expert3_word]; rfl
/-- The table widened to words. -/
theorem V1_v21 (c : Dev nD) : V1 m c main_v21 = extui 32 (V1 m c main_v20) natLt_1_32 := by
  after_results_simp

/-- Its entries as words of one and zero. -/
theorem V1_v21_apply (c : Dev nD) (j : Fin 4) (i : Fin 1024) : V1 m c main_v21 (ix2 j i) = if asg m c i = expW c j then 1#32 else 0#32 := by
  rw [V1_v21]
  show BitVec.setWidth 32 (V1 m c main_v20 (ix2 j i)) = _
  rw [V1_v20]
  simp only [IntOp.cmpi]
  by_cases h : asg m c i = expW c j
  · rw [if_pos h, beq_iff_eq.mpr h]; rfl
  · rw [if_neg h, beq_false_of_ne h]; rfl

/-- The window sum is the running count of each expert's tokens. -/
theorem V2_v22 (c : Dev nD) : V2 m c main_v22 = Host.reduceWindow IntOp.addi ![1, 1024] ![1, 1] ![0, 1023] ![0, 0] (V1 m c main_v21 : IVec S4x1024 32)
    (broadcastInDim S_ ![] bcast_S_S_ (constantI S_ 32 0#32)) reduceWindows_S4x1024_S4x1024_w1s1p0_0_w1024s1p1023_0 h_S_ := by
  unfold V2
  generalize V1 m c = W
  after_results_simp
  simp only [TRef.toBuf, TRef.ofBuf, cast_eq]
/-- The running count, read at an index. -/
theorem V2_v22_apply (c : Dev nD) (j : Fin 4) (t : Fin 1024) : V2 m c main_v22 (ix2 j t) = BitVec.ofNat 32 (cnt (asg m c) (expW c j) (t.val + 1)) := by
  rw [V2_v22]
  have hx : ∀ i : Fin 1024, (V1 m c main_v21 : IVec S4x1024 32) (ix2 j i) = if asg m c i = expW c j then 1#32 else 0#32 := V1_v21_apply m c j
  have h1 : (Routing.shape2 1 1024).ReduceWindows (![1, 1024] : Fin 2 → Nat) ![1, 1] ![0, 1023] ![0, 0] (Routing.shape2 1 1024) := by decide
  generalize (V1 m c main_v21 : IVec S4x1024 32) = x at hx
  exact running (R := 4) (N := 1024) (M := 1023) (by decide) x _ (by rfl) reduceWindows_S4x1024_S4x1024_w1s1p0_0_w1024s1p1023_0 h1 h_S_ j t (asg m c) (expW c j) hx

/-- The positions: the running count less one on the expert's tokens, all ones elsewhere. -/
theorem V4_v25 (c : Dev nD) (j : Fin 4) (t : Fin 1024) : V4 m c main_v25 (ix2 j t) = posW (asg m c) (expW c j) t := by
  have h : V4 m c main_v25 = select (V1 m c main_v20 : IVec S4x1024 1) (subi (V2 m c main_v22 : IVec S4x1024 32) (broadcastInDim S4x1024 ![] bcast_S_S4x1024 (constantI S_ 32 1#32)))
      (broadcastInDim S4x1024 ![] bcast_S_S4x1024 (constantI S_ 32 4294967295#32)) := by
    have h20 : V3 m c main_v20 = V1 m c main_v20 := (V3_of m c main_v20 (by decide)).trans (V2_of m c main_v20 (by decide))
    have h24 : V3 m c main_v24 = subi (V2 m c main_v22 : IVec S4x1024 32) (broadcastInDim S4x1024 ![] bcast_S_S4x1024 (constantI S_ 32 1#32)) := by
      after_results_simp
    have h7 : V3 m c main_c_7 = constantI S_ 32 4294967295#32 := by after_results_simp
    rw [← h20, ← h24, ← h7]
    unfold V4
    generalize V3 m c = W
    simp only [TRef.ternary, TRef.unary, TRef.toBuf, TRef.ofBuf, cast_eq]
    after_results_simp <;> rfl
  rw [h]
  pointwise
  rw [V1_v20, V2_v22_apply]
  unfold posW
  simp only [IntOp.cmpi]
  by_cases hk : asg m c t = expW c j
  · rw [if_pos hk, beq_iff_eq.mpr hk, cnt_hit _ _ _ hk]
    show BitVec.ofNat 32 (cnt (asg m c) (expW c j) t.val + 1) - 1#32 = _
    rw [BitVec.ofNat_add]; exact BitVec.add_sub_cancel _ _
  · rw [if_neg hk, beq_false_of_ne hk]; rfl

/-- The positions the body reads along rows, -/
theorem pq_apply (c : Dev nD) (j : Fin 4) (t : Fin 1024) : (Ins m c).pq (ix3 j 0 t) = posW (asg m c) (expW c j) t := by
  rw [Ins_pq, ← V4_v25]
  after_results_simp
  pointwise
/-- and those it reads along columns, are these. -/
theorem pc_apply (c : Dev nD) (j : Fin 4) (t : Fin 1024) : (Ins m c).pc (ix3 j t 0) = posW (asg m c) (expW c j) t := by
  rw [Ins_pc, ← V4_v25]
  after_results_simp
  pointwise
/-- The tokens the body reads are the argument: the change of format is the identity here. -/
theorem x_apply (c : Dev nD) (t d : Fin 1024) : (Ins m c).x (ix2 t d) = m ((c.tc : Thread nD τ).loc main_arg0) (ix2 t d) := by
  rw [Ins_x, V5_of m c main_v5 (by decide), V4_of m c main_v5 (by decide), V3_of m c main_v5 (by decide), V2_of m c main_v5 (by decide), V1_v5]
  rfl
/-- The body reads the experts' first matrices as the program was given them, -/
theorem W1_eq (c : Dev nD) : (Ins m c).W1 = m ((c.tc : Thread nD τ).loc main_arg2) := by
  rw [← V6_arg2]; exact V6_main_arg2 m (outs m) c
/-- and their second ones. -/
theorem W2_eq (c : Dev nD) : (Ins m c).W2 = m ((c.tc : Thread nD τ).loc main_arg3) := by
  rw [← V6_arg3]; exact V6_main_arg3 m (outs m) c

end Cert.KernelIdeal.Moe
end
-- ==== Proof.Fits.lean ====
/-
  The precondition, read as a bound: on each device at most 320 tokens are of any one expert.
-/
module

public import proofs.«01_k».proof.Pre_fits_KernelIdeal
public import proofs.«01_k».proof.Pre_fits_ReferenceIdeal
public import proofs.«01_k».proof.Proof.Counts
public import Idealize.ShloMosaic.Lib.Pointwise

@[expose] public section

set_option maxRecDepth 16384

noncomputable section

/-- The shape facts the precondition states on a device's arrays. -/
instance Cert.Pre_fits_KernelIdeal.facts : Cert.Pre_fits_KernelIdeal.Facts where
  bcast_S_S1024 := by decide
  natLt_1_32 := by decide
  reducesTo_S1024_S_d0 := by decide
  h_S_ := by decide

/-- The shape facts the precondition states on the whole arrays. -/
instance Cert.Pre_fits_ReferenceIdeal.facts : Cert.Pre_fits_ReferenceIdeal.Facts where
  bcast_S_S2048 := by decide
  natLt_1_32 := by decide
  reducesTo_S2048_S_d0 := by decide
  h_S_ := by decide

namespace Cert.Pre_fits_KernelIdeal

open Idealize.ShloMosaic Cert.Counts Facts

/-- One expert's conjunct of the precondition: the tokens that carry the word `k`, marked and added up, against the capacity. -/
def within (x : IVec S1024 32) (k : BitVec 32) : IVec S_ 1 :=
  cmpi .sle (Host.reduce IntOp.addi (extui 32 (cmpi .eq x (broadcastInDim S1024 ![] bcast_S_S1024 (constantI S_ 32 k))) natLt_1_32)
    (constantI S_ 32 0#32) reducesTo_S1024_S_d0 h_S_) (constantI S_ 32 320#32)

/-- The precondition is the four experts' conjuncts. -/
theorem fn_eq {F : FTy → Type} [FloatOps F] (x0 : FVec F S1024x1024 .f32) (x1 : IVec S1024 32) (x2 : FVec F S2x1024x2048 .f32)
    (x3 : FVec F S2x2048x1024 .f32) : fn (F := F) x0 x1 x2 x3
      = andi (andi (andi (andi (constantI S_ 1 1#1) (within x1 0#32)) (within x1 1#32)) (within x1 2#32)) (within x1 3#32) := by
  unfold fn fn_part1 within; rfl

/-- A conjunct bounds the count. -/
theorem within_le (x : IVec S1024 32) (k : BitVec 32) (h : within x k ix0 = 1#1) : cnt (fun t => x (ix1 t)) k 1024 ≤ 320 := by
  have e : Host.reduce IntOp.addi (extui 32 (cmpi .eq x (broadcastInDim S1024 ![] bcast_S_S1024 (constantI S_ 32 k))) natLt_1_32)
      (constantI S_ 32 0#32) reducesTo_S1024_S_d0 h_S_ ix0 = BitVec.ofNat 32 (cnt (fun t => x (ix1 t)) k 1024) := by
    refine total _ _ _ (fun i => ?_) reducesTo_S1024_S_d0 h_S_
    show BitVec.setWidth 32 (IntOp.cmpi .eq (x (ix1 i)) k) = _
    simp only [IntOp.cmpi]
    by_cases h : x (ix1 i) = k
    · rw [if_pos h, beq_iff_eq.mpr h]; rfl
    · rw [if_neg h, beq_false_of_ne h]; rfl
  unfold within at h
  change IntOp.cmpi .sle (Host.reduce IntOp.addi _ _ _ _ ix0) 320#32 = 1#1 at h
  rw [e] at h
  have hn := cnt_le (fun t => x (ix1 t)) k 1024
  generalize cnt (fun t => x (ix1 t)) k 1024 = n at h hn
  by_contra hc
  have hf : (BitVec.ofNat 32 n).sle 320#32 = false := by
    rw [BitVec.sle_eq_decide, decide_eq_false_iff_not, BitVec.toInt_eq_toNat_of_lt (by rw [BitVec.toNat_ofNat]; omega), BitVec.toNat_ofNat,
      Nat.mod_eq_of_lt (by omega)]
    show ¬ ((n : Int) ≤ 320)
    omega
  simp [IntOp.cmpi, hf] at h

/-- Under the precondition each of the four experts has at most 320 of the device's tokens. -/
theorem fits_le {F : FTy → Type} [FloatOps F] (x0 : FVec F S1024x1024 .f32) (x1 : IVec S1024 32) (x2 : FVec F S2x1024x2048 .f32)
    (x3 : FVec F S2x2048x1024 .f32) (h : fn (F := F) x0 x1 x2 x3 = fun _ => 1#1) (e : Fin 4) :
    cnt (fun t => x1 (ix1 t)) (BitVec.ofNat 32 e.val) 1024 ≤ 320 := by
  rw [fn_eq] at h
  have h0 : IntOp.andi (IntOp.andi (IntOp.andi (IntOp.andi 1#1 (within x1 0#32 ix0)) (within x1 1#32 ix0)) (within x1 2#32 ix0)) (within x1 3#32 ix0) = 1#1 :=
    congrFun h ix0
  have key : ∀ a b c d : BitVec 1, IntOp.andi (IntOp.andi (IntOp.andi (IntOp.andi 1#1 a) b) c) d = 1#1 → a = 1#1 ∧ b = 1#1 ∧ c = 1#1 ∧ d = 1#1 := by decide
  obtain ⟨ha, hb, hc, hd⟩ := key _ _ _ _ h0
  apply within_le
  fin_cases e
  · exact ha
  · exact hb
  · exact hc
  · exact hd

end Cert.Pre_fits_KernelIdeal

end
-- ==== Proof.RefValue.lean ====
/-
  The reference's result, read at an index: each token's row through its own expert, zero if its word names none.
-/
module

public import proofs.«01_k».proof.Proof.Gen.ReferenceIdeal.Run
public import proofs.«01_k».proof.Proof.Payload

@[expose] public section

set_option maxRecDepth 16384

noncomputable section

namespace Cert.ReferenceIdeal.Moe

open Cert.ReferenceIdeal Cert.ReferenceIdeal.Gen Cert.KernelIdeal.Moe
open Idealize.ShloMosaic Idealize.ShloMosaic.TcCoe Idealize.SL.Sem

/-- The value the word `w` picks of four, zero if it names none of them. -/
def pick (w : BitVec 32) (Y : Fin 4 → EReal) : EReal :=
  if w = 3#32 then Y 3 else if w = 2#32 then Y 2 else if w = 1#32 then Y 1 else if w = 0#32 then Y 0 else 0

/-- A select on two words' equality is the choice. -/
theorem select_eq (w k : BitVec 32) (x y : EReal) : Scalar.select (IntOp.cmpi .eq w k) x y = if w = k then x else y := by
  by_cases h : w = k
  · rw [if_pos h, h]; simp [IntOp.cmpi, Scalar.select]
  · rw [if_neg h]
    have e : (w == k) = false := beq_false_of_ne h
    simp [IntOp.cmpi, Scalar.select, e]

/-- The result of the whole arrays `x`, `a`, `W1`, `W2`: token `i 0`'s row through the expert its word names. -/
def refOut (x : Vec Ideal S2048x1024 .f32) (a : Vec Ideal S2048 .i32) (W1 : Vec Ideal S4x1024x2048 .f32) (W2 : Vec Ideal S4x2048x1024 .f32) :
    Vec Ideal S2048x1024 .f32 := fun i =>
  pick (a (ix1 (i 0))) fun e => ffn (fun k f => W1 (ix3 e k f)) (fun f d => W2 (ix3 e f d)) (fun k => x (ix2 (i 0) k)) (i 1)

variable (m : (ℓ : Loc nD τ sig) → Buf (Elt Ideal) ℓ) (ρ : Dev nD → PrngReg)

/-- The reference runs, and leaves that result and its arguments. -/
theorem run_ref : θ_run (defs (F := Ideal)) (onTc (τ := τ) (main (F := Ideal))) ⟨m, fun _ => 0, ρ⟩ (fun r => ∀ c : Dev nD,
      r.2.mem ((c.tc : Thread nD τ).loc main_v48) = refOut (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun _ h c => ⟨(h c).1.trans (funext fun i => ?_), (h c).2⟩) (Value.run (F := Ideal) m ρ)
  idx_vars i
  pointwise [refOut, ffn]
  simp only [select_eq, pick]

end Cert.ReferenceIdeal.Moe

end
-- ==== Proof.Equation.lean ====
/-
  The kernel's result on each device is that device's block of the reference's: a token's row is served by its expert,
  on the device itself or on its partner, and the four experts of the two are all there are.
-/
module

public import proofs.«01_k».proof.Proof.Positions
public import proofs.«01_k».proof.Proof.Fits
public import proofs.«01_k».proof.Proof.RefValue
public import Idealize.ShloMosaic.Lib.Layout

@[expose] public section

set_option maxRecDepth 16384

noncomputable section

namespace Cert.KernelIdeal.Moe

open Cert.KernelIdeal Cert.KernelIdeal.Gen Cert.Counts Cert.ReferenceIdeal.Moe
open Idealize.ShloMosaic Idealize.ShloMosaic.TcCoe

/-! ## Blocks of the whole arrays -/

/-- The device's block coordinate along the cut dimension is its first mesh coordinate. -/
theorem block_coord : ∀ c : Dev nD, Layout.meshLin [2, 4, 4] c.val [0] = c.val / 16 := by decide

/-- Row `t` of the device's block of tokens, as a row of the whole. -/
def tok (c : Dev nD) (t : Fin 1024) : Fin 2048 := ⟨1024 * (c.val / 16) + t.val, by have := c.isLt; have := t.isLt; have : nD = 32 := rfl; omega⟩

/-- Expert `e` of the device's two, as one of the four. -/
def own (c : Dev nD) (e : Fin 2) : Fin 4 := ⟨2 * (c.val / 16) + e.val, by have := c.isLt; have := e.isLt; have : nD = 32 := rfl; omega⟩

variable {α : Type}

/-- An entry of the device's block of a matrix of tokens; -/
theorem rows_apply (c : Dev nD) (v : (⟨2, ![2048, 1024]⟩ : Shape).Idx → α) (t d : Fin 1024) :
    Layout.blockN ⟨2, ![1024, 1024]⟩ ⟨2, ![2048, 1024]⟩ (Layout.meshBlock [2, 4, 4] ![[0], []] c) v (by decide) (ix2 t d) = v (ix2 (tok c t) d) := by
  rw [Layout.blockN_apply]
  refine congrArg v (funext fun b => Fin.ext ?_)
  rw [Layout.TilesN.idx_val]
  match b with
  | 0 => show Layout.meshLin [2, 4, 4] c.val [0] * 1024 + t.val = 1024 * (c.val / 16) + t.val; rw [block_coord, Nat.mul_comm]
  | 1 => show 0 * 1024 + d.val = d.val; omega

/-- of a vector of them; -/
theorem words_apply (c : Dev nD) (v : (⟨1, ![2048]⟩ : Shape).Idx → α) (t : Fin 1024) :
    Layout.blockN ⟨1, ![1024]⟩ ⟨1, ![2048]⟩ (Layout.meshBlock [2, 4, 4] ![[0]] c) v (by decide) (ix1 t) = v (ix1 (tok c t)) := by
  rw [Layout.blockN_apply]
  refine congrArg v (funext fun b => Fin.ext ?_)
  rw [Layout.TilesN.idx_val]
  match b with
  | 0 => show Layout.meshLin [2, 4, 4] c.val [0] * 1024 + t.val = 1024 * (c.val / 16) + t.val; rw [block_coord, Nat.mul_comm]

/-- of the experts' first matrices; -/
theorem firsts_apply (c : Dev nD) (v : (⟨3, ![4, 1024, 2048]⟩ : Shape).Idx → α) (e : Fin 2) (k : Fin 1024) (f : Fin 2048) :
    Layout.blockN ⟨3, ![2, 1024, 2048]⟩ ⟨3, ![4, 1024, 2048]⟩ (Layout.meshBlock [2, 4, 4] ![[0], [], []] c) v (by decide) (ix3 e k f)
      = v (ix3 (own c e) k f) := by
  rw [Layout.blockN_apply]
  refine congrArg v (funext fun b => Fin.ext ?_)
  rw [Layout.TilesN.idx_val]
  match b with
  | 0 => show Layout.meshLin [2, 4, 4] c.val [0] * 2 + e.val = 2 * (c.val / 16) + e.val; rw [block_coord, Nat.mul_comm]
  | 1 => show 0 * 1024 + k.val = k.val; omega
  | 2 => show 0 * 2048 + f.val = f.val; omega

/-- of their second ones. -/
theorem seconds_apply (c : Dev nD) (v : (⟨3, ![4, 2048, 1024]⟩ : Shape).Idx → α) (e : Fin 2) (f : Fin 2048) (d : Fin 1024) :
    Layout.blockN ⟨3, ![2, 2048, 1024]⟩ ⟨3, ![4, 2048, 1024]⟩ (Layout.meshBlock [2, 4, 4] ![[0], [], []] c) v (by decide) (ix3 e f d)
      = v (ix3 (own c e) f d) := by
  rw [Layout.blockN_apply]
  refine congrArg v (funext fun b => Fin.ext ?_)
  rw [Layout.TilesN.idx_val]
  match b with
  | 0 => show Layout.meshLin [2, 4, 4] c.val [0] * 2 + e.val = 2 * (c.val / 16) + e.val; rw [block_coord, Nat.mul_comm]
  | 1 => show 0 * 2048 + f.val = f.val; omega
  | 2 => show 0 * 1024 + d.val = d.val; omega

/-! ## The choice among the four experts -/

/-- The device's rows name its own two experts, then its partner's two. -/
theorem expert_own : ∀ c : Dev nD, expert c 0 = (own c 0).val ∧ expert c 1 = (own c 1).val ∧ expert c 2 = (own (pr c) 0).val
    ∧ expert c 3 = (own (pr c) 1).val := by decide

/-- On either half of the mesh the two devices' experts are the four, in one order or the other. -/
theorem own_cases : ∀ c : Dev nD, (own c 0 = 0 ∧ own c 1 = 1 ∧ own (pr c) 0 = 2 ∧ own (pr c) 1 = 3)
    ∨ (own c 0 = 2 ∧ own c 1 = 3 ∧ own (pr c) 0 = 0 ∧ own (pr c) 1 = 1) := by decide

/-- The four contributions, of which the token's word keeps at most one, add up to the choice. -/
theorem sum_pick (c : Dev nD) (w : BitVec 32) (Y : Fin 4 → EReal) :
    (if w = expW c 0 then Y (own c 0) else 0) + (if w = expW c 1 then Y (own c 1) else 0) + (if w = expW c 2 then Y (own (pr c) 0) else 0)
      + (if w = expW c 3 then Y (own (pr c) 1) else 0) = pick w Y := by
  obtain ⟨e0, e1, e2, e3⟩ := expert_own c
  unfold expW pick
  rw [e0, e1, e2, e3]
  rcases own_cases c with ⟨h0, h1, h2, h3⟩ | ⟨h0, h1, h2, h3⟩ <;> rw [h0, h1, h2, h3] <;>
    by_cases a3 : w = 3#32 <;> by_cases a2 : w = 2#32 <;> by_cases a1 : w = 1#32 <;> by_cases a0 : w = 0#32 <;> simp_all

/-! ## The equation -/

variable (m : (ℓ : Loc nD τ sig) → Buf (Elt Ideal) ℓ)

/-- With at most 320 tokens of each expert on every device, and each device's arguments its blocks of the whole arrays,
    each device's result is its block of the reference's. -/
theorem out_eq (X : Vec Ideal Cert.ReferenceIdeal.S2048x1024 .f32) (A : Vec Ideal Cert.ReferenceIdeal.S2048 .i32)
    (B1 : Vec Ideal Cert.ReferenceIdeal.S4x1024x2048 .f32) (B2 : Vec Ideal Cert.ReferenceIdeal.S4x2048x1024 .f32)
    (hfit : ∀ (c : Dev nD) (e : Fin 4), cnt (asg m c) (BitVec.ofNat 32 e.val) 1024 ≤ 320)
    (hX : ∀ c t d, (m ((c.tc : Thread nD τ).loc main_arg0) : Vec Ideal S1024x1024 .f32) (ix2 t d) = X (ix2 (tok c t) d))
    (hA : ∀ c t, asg m c t = A (ix1 (tok c t)))
    (h1 : ∀ c e k f, (m ((c.tc : Thread nD τ).loc main_arg2) : Vec Ideal S2x1024x2048 .f32) (ix3 e k f) = B1 (ix3 (own c e) k f))
    (h2 : ∀ c e f d, (m ((c.tc : Thread nD τ).loc main_arg3) : Vec Ideal S2x2048x1024 .f32) (ix3 e f d) = B2 (ix3 (own c e) f d))
    (c : Dev nD) (t d : Fin 1024) : outOf (Ins m) c (ix2 t d) = refOut X A B1 B2 (ix2 (tok c t) d) := by
  have hk : ∀ j : Fin 4, ∃ e : Fin 4, expW c j = BitVec.ofNat 32 e.val := by
    obtain ⟨e0, e1, e2, e3⟩ := expert_own c
    intro j
    unfold expW
    fin_cases j
    · exact ⟨_, congrArg _ e0⟩
    · exact ⟨_, congrArg _ e1⟩
    · exact ⟨_, congrArg _ e2⟩
    · exact ⟨_, congrArg _ e3⟩
  have hup : ∀ (c : Dev nD) (e : Fin 2), up (Ins m c) e = fun k f => B1 (ix3 (own c e) k f) := fun c e => by
    funext k f; unfold up; rw [W1_eq, h1]
  have hdown : ∀ (c : Dev nD) (e : Fin 2), down (Ins m c) e = fun f d => B2 (ix3 (own c e) f d) := fun c e => by
    funext f d; unfold down; rw [W2_eq, h2]
  have hx : (fun j => (Ins m c).x (ix2 t j)) = fun j => X (ix2 (tok c t) j) := by
    funext j; rw [x_apply, hX]
  unfold outOf G2of
  rw [pr_pr, outBlock_apply (asg m c) (Ins m c) (Ins m (pr c)) (expW c) (fun j => by obtain ⟨e, he⟩ := hk j; rw [he]; exact hfit c e)
    (pq_apply m c) (pc_apply m c), hup, hup, hup, hup, hdown, hdown, hdown, hdown, hx, hA]
  exact sum_pick c _ fun e => ffn (fun k f => B1 (ix3 e k f)) (fun f d => B2 (ix3 e f d)) (fun k => X (ix2 (tok c t) k)) d

end Cert.KernelIdeal.Moe

end
-- ==== Proof.lean ====
/-
  The certificate's claims: every program runs, leaves its arguments and ends with every counter at zero; the kernel's
  idealization is its own text; and where at most 320 of a device's tokens are of any one expert, each device's result
  is its block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem

/-- The body tables of the two programs agree: at the one label both run the same body. -/
theorem bodies_eq : Cert.KernelIdeal.defs₀ (F := Bits) = Cert.Kernel.defs₀ (F := Bits) := by
  funext p ℓ a
  match p, ℓ, a with
  | .tc, ⟨0, _⟩, (t, s) => rfl
  | .scScalar _, _, _ => rfl
  | .scVector _ _, _, _ => rfl

/-- So do the tables with the pipeline's labels. -/
theorem tables_eq : Cert.KernelIdeal.defs (F := Bits) = Cert.Kernel.defs (F := Bits) :=
  congrArg (Pipeline.defs (Cert.KernelIdeal.pcfgs (F := Bits))) bodies_eq

/-- The kernel as printed runs on the 32 devices: its program is the idealized one's text, so the one run serves both. -/
theorem frame_kernel : Cert.quiescent_Kernel := fun m ρ _ => by
  have h := Cert.KernelIdeal.Moe.run_main (F := Bits) m ρ
  rw [tables_eq] at h
  exact (θ_run Cert.Kernel.defs _ _).mono (fun _ h => ⟨fun c => ⟨(h.1 c).1, (h.1 c).2.1, (h.1 c).2.2.1, (h.1 c).2.2.2.1⟩, h.2⟩) h

/-- The idealized kernel runs, from any memory. -/
theorem frame_ideal : Cert.quiescent_KernelIdeal := fun m ρ _ =>
  (θ_run Cert.KernelIdeal.defs _ _).mono (fun _ h => ⟨fun c => ⟨(h.1 c).1, (h.1 c).2.1, (h.1 c).2.2.1, (h.1 c).2.2.2.1⟩, h.2⟩)
    (Cert.KernelIdeal.Moe.run_main (F := Ideal) m ρ)

/-- The reference runs, from any memory; it has no semaphores. -/
theorem frame_reference : Cert.quiescent_ReferenceIdeal := fun m ρ _ =>
  (θ_run Cert.ReferenceIdeal.defs _ _).mono (fun _ h => ⟨fun c => (h c).2, Idealize.ShloMosaic.sem_eq_zero_of_no_sems rfl _⟩)
    (Cert.ReferenceIdeal.Value.run (F := Ideal) m ρ)

/-- The idealized kernel's result is the reference's, block by block: each side's run is known with its result, and the
    two results agree index by index. -/
theorem algebraic : Cert.algebraic_KernelIdeal_ReferenceIdeal_pre_fits_KernelIdeal := fun m g m' g' hpre hargs => by
  refine ⟨Cert.ReferenceIdeal.Moe.refOut _ _ _ _, (θ_run Cert.KernelIdeal.defs _ _).mono (fun r h c => ?_) (Cert.KernelIdeal.Moe.run_main (F := Ideal) m g),
    (θ_run Cert.ReferenceIdeal.defs _ _).mono (fun _ h => h 0) (Cert.ReferenceIdeal.Moe.run_ref m' g')⟩
  obtain ⟨a0, a1, a2, a3, hout⟩ := h.1 c
  refine ⟨hout.trans (funext fun i => ?_), a0, a1, a2, a3⟩
  idx_vars i
  refine (Cert.KernelIdeal.Moe.out_eq m _ _ _ _ (fun c e => Cert.Pre_fits_KernelIdeal.fits_le _ _ _ _ (hpre c) e)
    (fun c t d => ?_) (fun c t => ?_) (fun c e k f => ?_) (fun c e f d => ?_) c _ _).trans (Cert.KernelIdeal.Moe.rows_apply c _ _ _).symm
  · rw [(hargs c).1]; exact Cert.KernelIdeal.Moe.rows_apply c _ t d
  · unfold Cert.KernelIdeal.Moe.asg; rw [(hargs c).2.1]; exact Cert.KernelIdeal.Moe.words_apply c _ t
  · rw [(hargs c).2.2.1]; exact Cert.KernelIdeal.Moe.firsts_apply c _ e k f
  · rw [(hargs c).2.2.2]; exact Cert.KernelIdeal.Moe.seconds_apply c _ e f d

/-- All of the certificate's claims; the runs under the precondition are the runs from any memory. -/
theorem claim : Cert.Claim := ⟨Cert.Kernel.Gen.facts, Cert.KernelIdeal.Gen.facts, Cert.ReferenceIdeal.Gen.facts,
  Cert.Pre_fits_KernelIdeal.facts, Cert.Pre_fits_ReferenceIdeal.facts,
  frame_kernel, frame_ideal, fun m ρ _ => frame_ideal m ρ trivial, frame_reference, fun m ρ _ => frame_reference m ρ trivial, trivial, algebraic⟩

end Cert.Proof

end
